-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_in_place_Kernel [hPre_in_place_Kernel : Cert.Pre_in_place_Kernel.Facts] (m : (ℓ : Loc Cert.Kernel.nD Cert.Kernel.τ Cert.Kernel.sig) → Buf (Elt Bits) ℓ) : Prop :=
  ∀ c : Dev Cert.Kernel.nD,
    (Cert.Pre_in_place_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_place_Kernel [hPre_in_place_Kernel : Cert.Pre_in_place_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_place_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_swapped_Reference [hPre_swapped_Reference : Cert.Pre_swapped_Reference.Facts] (m : (ℓ : Loc Cert.Reference.nD Cert.Reference.τ Cert.Reference.sig) → Buf (Elt Bits) ℓ) : Prop :=
  ∀ c : Dev Cert.Reference.nD,
    (Cert.Pre_swapped_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_in_place_Reference [hPre_in_place_Reference : Cert.Pre_in_place_Reference.Facts] (m : (ℓ : Loc Cert.Reference.nD Cert.Reference.τ Cert.Reference.sig) → Buf (Elt Bits) ℓ) : Prop :=
  ∀ c : Dev Cert.Reference.nD,
    (Cert.Pre_in_place_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_Reference [hPre_swapped_Reference : Cert.Pre_swapped_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_in_place_Reference [hPre_in_place_Reference : Cert.Pre_in_place_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_place_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_place_Kernel [hKernel : Cert.Kernel.Facts] [hPre_in_place_Kernel : Cert.Pre_in_place_Kernel.Facts] : Prop :=
  ∀ (m : (ℓ : Loc Cert.Kernel.nD Cert.Kernel.τ Cert.Kernel.sig) → Buf (Elt Bits) ℓ) (g : Dev Cert.Kernel.nD → PrngReg), Pre_Kernel_in_place_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_place_Kernel [hKernelIdeal : Cert.KernelIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_place_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_swapped_Reference [hReference : Cert.Reference.Facts] [hPre_swapped_Reference : Cert.Pre_swapped_Reference.Facts] : Prop :=
  ∀ (m : (ℓ : Loc Cert.Reference.nD Cert.Reference.τ Cert.Reference.sig) → Buf (Elt Bits) ℓ) (g : Dev Cert.Reference.nD → PrngReg), Pre_Reference_swapped_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_place_Reference [hReference : Cert.Reference.Facts] [hPre_in_place_Reference : Cert.Pre_in_place_Reference.Facts] : Prop :=
  ∀ (m : (ℓ : Loc Cert.Reference.nD Cert.Reference.τ Cert.Reference.sig) → Buf (Elt Bits) ℓ) (g : Dev Cert.Reference.nD → PrngReg), Pre_Reference_in_place_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_Reference [hReferenceIdeal : Cert.ReferenceIdeal.Facts] [hPre_swapped_Reference : Cert.Pre_swapped_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_place_Reference [hReferenceIdeal : Cert.ReferenceIdeal.Facts] [hPre_in_place_Reference : Cert.Pre_in_place_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_place_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_in_place_Kernel [hKernelIdeal : Cert.KernelIdeal.Facts] [hReferenceIdeal : Cert.ReferenceIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_place_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 1024, 1024]⟩ ⟨3, ![2, 1024, 1024]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![2, 1024, 1024]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_in_place_Kernel [hKernel : Cert.Kernel.Facts] [hReference : Cert.Reference.Facts] [hPre_in_place_Kernel : Cert.Pre_in_place_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_in_place_Kernel m →
    (∀ c : Dev Cert.Kernel.nD,
      m ((c.tc : Thread Cert.Kernel.nD Cert.Kernel.τ).loc Cert.Kernel.main_arg0) = Layout.blockN ⟨3, ![1, 1024, 1024]⟩ ⟨3, ![2, 1024, 1024]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![2, 1024, 1024]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v8) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_swapped_Kernel : Cert.Pre_swapped_Kernel.Facts) (hPre_in_place_Kernel : Cert.Pre_in_place_Kernel.Facts) (hPre_swapped_Reference : Cert.Pre_swapped_Reference.Facts) (hPre_in_place_Reference : Cert.Pre_in_place_Reference.Facts),
    quiescent_Kernel (hKernel := hKernel) (hPre_swapped_Kernel := hPre_swapped_Kernel)
    ∧ quiescent_Kernel_pre_in_place_Kernel (hKernel := hKernel) (hPre_in_place_Kernel := hPre_in_place_Kernel)
    ∧ quiescent_KernelIdeal (hKernelIdeal := hKernelIdeal) (hPre_swapped_Kernel := hPre_swapped_Kernel)
    ∧ quiescent_KernelIdeal_pre_in_place_Kernel (hKernelIdeal := hKernelIdeal) (hPre_in_place_Kernel := hPre_in_place_Kernel)
    ∧ quiescent_Reference (hReference := hReference)
    ∧ quiescent_Reference_pre_swapped_Reference (hReference := hReference) (hPre_swapped_Reference := hPre_swapped_Reference)
    ∧ quiescent_Reference_pre_in_place_Reference (hReference := hReference) (hPre_in_place_Reference := hPre_in_place_Reference)
    ∧ quiescent_ReferenceIdeal (hReferenceIdeal := hReferenceIdeal)
    ∧ quiescent_ReferenceIdeal_pre_swapped_Reference (hReferenceIdeal := hReferenceIdeal) (hPre_swapped_Reference := hPre_swapped_Reference)
    ∧ quiescent_ReferenceIdeal_pre_in_place_Reference (hReferenceIdeal := hReferenceIdeal) (hPre_in_place_Reference := hPre_in_place_Reference)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_in_place_Kernel (hKernelIdeal := hKernelIdeal) (hReferenceIdeal := hReferenceIdeal) (hPre_in_place_Kernel := hPre_in_place_Kernel)
    ∧ bitexact_Kernel_Reference (hKernel := hKernel) (hReference := hReference) (hPre_swapped_Kernel := hPre_swapped_Kernel)
    ∧ bitexact_Kernel_Reference_pre_in_place_Kernel (hKernel := hKernel) (hReference := hReference) (hPre_in_place_Kernel := hPre_in_place_Kernel)
-- ==== Pre_in_place_Kernel.lean ====
abbrev S1x1024x1024 : Shape := ⟨3, ![1, 1024, 1024]⟩
abbrev S2 : Shape := ⟨1, ![2]⟩

class Facts : Prop where

variable [Facts]

def fn {F : FTy → Type} [FloatOps F] (main_arg0 : FVec F S1x1024x1024 .f32) (main_arg1 : IVec S2 32) : IVec S2 1 :=
  let main_v0 : IVec S2 32 := iotaInDim S2 32 0
  let main_v1 : IVec S2 1 := cmpi .eq main_arg1 main_v0
  main_v1
-- ==== Pre_in_place_Reference.lean ====
abbrev S2x1024x1024 : Shape := ⟨3, ![2, 1024, 1024]⟩
abbrev S2 : Shape := ⟨1, ![2]⟩

class Facts : Prop where

variable [Facts]

def fn {F : FTy → Type} [FloatOps F] (main_arg0 : FVec F S2x1024x1024 .f32) (main_arg1 : IVec S2 32) : IVec S2 1 :=
  let main_v0 : IVec S2 32 := iotaInDim S2 32 0
  let main_v1 : IVec S2 1 := cmpi .eq main_arg1 main_v0
  main_v1
-- ==== Pre_swapped_Kernel.lean ====
abbrev S1x1024x1024 : Shape := ⟨3, ![1, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x1024x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swapped_Reference.lean ====
abbrev S2x1024x1024 : Shape := ⟨3, ![2, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x1024x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x1024x1024 : Shape := ⟨3, ![1, 1024, 1024]⟩
abbrev S2 : Shape := ⟨1, ![2]⟩
abbrev S2x64x1024 : Shape := ⟨3, ![2, 64, 1024]⟩
abbrev S512x1024 : Shape := ⟨2, ![512, 1024]⟩
abbrev S_ : Shape := ⟨0, ![]⟩
abbrev S8 : Shape := ⟨1, ![8]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .bf16⟩
  | .local _ .vmem, ⟨0, _⟩ => ⟨S2x64x1024, .f32⟩
  | .local _ .vmem, ⟨1, _⟩ => ⟨S512x1024, .bf16⟩
  | .local _ .vmem, ⟨2, _⟩ => ⟨S512x1024, .bf16⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.smem, 0, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_4 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v9 : BitVec 32 := Scalar.addi v8 c0_i32
  let c0_i32_9 : BitVec 32 := 0#32
  ![0, v9.toNat, 0]
def k0_dev1 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v30 : BitVec 32 := Scalar.muli v2 c2_i32_17
  let v31 : BitVec 32 := Scalar.addi c0_i32_18 v30
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_19 : BitVec 32 := 1#32
  let v32 : BitVec 32 := Scalar.muli v7 c1_i32_19
  let v33 : BitVec 32 := Scalar.addi v31 v32
  v33.toNat
def k0_dev2 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v34 : BitVec 32 := Scalar.muli v6 c2_i32_21
  let v35 : BitVec 32 := Scalar.addi c0_i32_22 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v36 : BitVec 32 := Scalar.muli v5 c1_i32_23
  let v37 : BitVec 32 := Scalar.addi v35 v36
  v37.toNat
def k0_off2 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v38 : Index := Scalar.indexCast v5
  ![v38.toNat]
def k0_dev3 (d0 : Dev nD) (v39 : BitVec 32) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v58 : BitVec 32 := Scalar.muli v2 c2_i32_43
  let v59 : BitVec 32 := Scalar.addi c0_i32_44 v58
  let c1_i32_45 : BitVec 32 := 1#32
  let v60 : BitVec 32 := Scalar.muli v39 c1_i32_45
  let v61 : BitVec 32 := Scalar.addi v59 v60
  v61.toNat

def k0_off3 (d0 : Dev nD) (c64_i32 : BitVec 32) : Fin 3 → Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v10 : BitVec 32 := Scalar.addi v8 c64_i32
  let c0_i32_55 : BitVec 32 := 0#32
  ![0, v10.toNat, 0]
def k0_dev4 (d0 : Dev nD) (v39 : BitVec 32) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v86 : BitVec 32 := Scalar.muli v2 c2_i32_67
  let v87 : BitVec 32 := Scalar.addi c0_i32_68 v86
  let c1_i32_69 : BitVec 32 := 1#32
  let v88 : BitVec 32 := Scalar.muli v39 c1_i32_69
  let v89 : BitVec 32 := Scalar.addi v87 v88
  v89.toNat
def k0_dev5 (d0 : Dev nD) (v39 : BitVec 32) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v114 : BitVec 32 := Scalar.muli v2 c2_i32_92
  let v115 : BitVec 32 := Scalar.addi c0_i32_93 v114
  let c1_i32_94 : BitVec 32 := 1#32
  let v116 : BitVec 32 := Scalar.muli v39 c1_i32_94
  let v117 : BitVec 32 := Scalar.addi v115 v116
  v117.toNat
def k0_dev6 (d0 : Dev nD) (v39 : BitVec 32) : Nat :=
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_116 : BitVec 32 := 2#32
  let v142 : BitVec 32 := Scalar.muli v2 c2_i32_116
  let v143 : BitVec 32 := Scalar.addi c0_i32_117 v142
  let c1_i32_118 : BitVec 32 := 1#32
  let v144 : BitVec 32 := Scalar.muli v39 c1_i32_118
  let v145 : BitVec 32 := Scalar.addi v143 v144
  v145.toNat
def k0_dev7 (d0 : Dev nD) (v39 : BitVec 32) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v170 : BitVec 32 := Scalar.muli v2 c2_i32_140
  let v171 : BitVec 32 := Scalar.addi c0_i32_141 v170
  let c1_i32_142 : BitVec 32 := 1#32
  let v172 : BitVec 32 := Scalar.muli v39 c1_i32_142
  let v173 : BitVec 32 := Scalar.addi v171 v172
  v173.toNat
def k0_dev8 (d0 : Dev nD) (v39 : BitVec 32) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v198 : BitVec 32 := Scalar.muli v2 c2_i32_164
  let v199 : BitVec 32 := Scalar.addi c0_i32_165 v198
  let c1_i32_166 : BitVec 32 := 1#32
  let v200 : BitVec 32 := Scalar.muli v39 c1_i32_166
  let v201 : BitVec 32 := Scalar.addi v199 v200
  v201.toNat
def k0_dev9 (d0 : Dev nD) (v39 : BitVec 32) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v220 : BitVec 32 := Scalar.muli v2 c2_i32_182
  let v221 : BitVec 32 := Scalar.addi c0_i32_183 v220
  let c1_i32_184 : BitVec 32 := 1#32
  let v222 : BitVec 32 := Scalar.muli v39 c1_i32_184
  let v223 : BitVec 32 := Scalar.addi v221 v222
  v223.toNat
def k0_dev10 (d0 : Dev nD) (v39 : BitVec 32) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v242 : BitVec 32 := Scalar.muli v2 c2_i32_200
  let v243 : BitVec 32 := Scalar.addi c0_i32_201 v242
  let c1_i32_202 : BitVec 32 := 1#32
  let v244 : BitVec 32 := Scalar.muli v39 c1_i32_202
  let v245 : BitVec 32 := Scalar.addi v243 v244
  v245.toNat

def k0_chk1 (d0 : Dev nD) (v39 : BitVec 32) : Prop :=
  ((k0_dev3 d0 v39) < nD) ∧
  ((k0_dev4 d0 v39) < nD) ∧
  ((k0_dev5 d0 v39) < nD) ∧
  ((k0_dev6 d0 v39) < nD) ∧
  ((k0_dev7 d0 v39) < nD) ∧
  ((k0_dev8 d0 v39) < nD) ∧
  ((k0_dev9 d0 v39) < nD) ∧
  ((k0_dev10 d0 v39) < nD)
theorem k0_dev3_lt : ∀ (d0 : Dev nD) (v39 : BitVec 32) (k0_hw1 : k0_chk1 d0 v39), (k0_dev3 d0 v39) < nD := fun d0 v39 k0_hw1 => k0_hw1.1
theorem k0_dev4_lt : ∀ (d0 : Dev nD) (v39 : BitVec 32) (k0_hw1 : k0_chk1 d0 v39), (k0_dev4 d0 v39) < nD := fun d0 v39 k0_hw1 => k0_hw1.2.1
theorem k0_dev5_lt : ∀ (d0 : Dev nD) (v39 : BitVec 32) (k0_hw1 : k0_chk1 d0 v39), (k0_dev5 d0 v39) < nD := fun d0 v39 k0_hw1 => k0_hw1.2.2.1
theorem k0_dev6_lt : ∀ (d0 : Dev nD) (v39 : BitVec 32) (k0_hw1 : k0_chk1 d0 v39), (k0_dev6 d0 v39) < nD := fun d0 v39 k0_hw1 => k0_hw1.2.2.2.1
theorem k0_dev7_lt : ∀ (d0 : Dev nD) (v39 : BitVec 32) (k0_hw1 : k0_chk1 d0 v39), (k0_dev7 d0 v39) < nD := fun d0 v39 k0_hw1 => k0_hw1.2.2.2.2.1
theorem k0_dev8_lt : ∀ (d0 : Dev nD) (v39 : BitVec 32) (k0_hw1 : k0_chk1 d0 v39), (k0_dev8 d0 v39) < nD := fun d0 v39 k0_hw1 => k0_hw1.2.2.2.2.2.1
theorem k0_dev9_lt : ∀ (d0 : Dev nD) (v39 : BitVec 32) (k0_hw1 : k0_chk1 d0 v39), (k0_dev9 d0 v39) < nD := fun d0 v39 k0_hw1 => k0_hw1.2.2.2.2.2.2.1
theorem k0_dev10_lt : ∀ (d0 : Dev nD) (v39 : BitVec 32) (k0_hw1 : k0_chk1 d0 v39), (k0_dev10 d0 v39) < nD := fun d0 v39 k0_hw1 => k0_hw1.2.2.2.2.2.2.2

def k0_dev11 (d0 : Dev nD) : Nat :=
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_220 : BitVec 32 := 2#32
  let v261 : BitVec 32 := Scalar.muli v6 c2_i32_220
  let v262 : BitVec 32 := Scalar.addi c0_i32_221 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v263 : BitVec 32 := Scalar.muli v5 c1_i32_222
  let v264 : BitVec 32 := Scalar.addi v262 v263
  v264.toNat
def k0_dev12 (d0 : Dev nD) : Nat :=
  let c0_i32_245 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_244 : BitVec 32 := 2#32
  let v286 : BitVec 32 := Scalar.muli v6 c2_i32_244
  let v287 : BitVec 32 := Scalar.addi c0_i32_245 v286
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v288 : BitVec 32 := Scalar.muli v5 c1_i32_246
  let v289 : BitVec 32 := Scalar.addi v287 v288
  v289.toNat
def k0_dev13 (d0 : Dev nD) : Nat :=
  let c0_i32_269 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_268 : BitVec 32 := 2#32
  let v311 : BitVec 32 := Scalar.muli v6 c2_i32_268
  let v312 : BitVec 32 := Scalar.addi c0_i32_269 v311
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_270 : BitVec 32 := 1#32
  let v313 : BitVec 32 := Scalar.muli v5 c1_i32_270
  let v314 : BitVec 32 := Scalar.addi v312 v313
  v314.toNat
def k0_dev14 (d0 : Dev nD) : Nat :=
  let c0_i32_293 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_292 : BitVec 32 := 2#32
  let v336 : BitVec 32 := Scalar.muli v6 c2_i32_292
  let v337 : BitVec 32 := Scalar.addi c0_i32_293 v336
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_294 : BitVec 32 := 1#32
  let v338 : BitVec 32 := Scalar.muli v5 c1_i32_294
  let v339 : BitVec 32 := Scalar.addi v337 v338
  v339.toNat
def k0_dev15 (d0 : Dev nD) : Nat :=
  let c0_i32_317 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_316 : BitVec 32 := 2#32
  let v361 : BitVec 32 := Scalar.muli v6 c2_i32_316
  let v362 : BitVec 32 := Scalar.addi c0_i32_317 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_318 : BitVec 32 := 1#32
  let v363 : BitVec 32 := Scalar.muli v5 c1_i32_318
  let v364 : BitVec 32 := Scalar.addi v362 v363
  v364.toNat
def k0_dev16 (d0 : Dev nD) : Nat :=
  let c0_i32_341 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_340 : BitVec 32 := 2#32
  let v386 : BitVec 32 := Scalar.muli v6 c2_i32_340
  let v387 : BitVec 32 := Scalar.addi c0_i32_341 v386
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v388 : BitVec 32 := Scalar.muli v5 c1_i32_342
  let v389 : BitVec 32 := Scalar.addi v387 v388
  v389.toNat
def k0_dev17 (d0 : Dev nD) : Nat :=
  let c0_i32_365 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_364 : BitVec 32 := 2#32
  let v411 : BitVec 32 := Scalar.muli v6 c2_i32_364
  let v412 : BitVec 32 := Scalar.addi c0_i32_365 v411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_366 : BitVec 32 := 1#32
  let v413 : BitVec 32 := Scalar.muli v5 c1_i32_366
  let v414 : BitVec 32 := Scalar.addi v412 v413
  v414.toNat
def k0_dev18 (d0 : Dev nD) : Nat :=
  let c0_i32_389 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_388 : BitVec 32 := 2#32
  let v436 : BitVec 32 := Scalar.muli v6 c2_i32_388
  let v437 : BitVec 32 := Scalar.addi c0_i32_389 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v438 : BitVec 32 := Scalar.muli v5 c1_i32_390
  let v439 : BitVec 32 := Scalar.addi v437 v438
  v439.toNat
-- ==== Reference.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | .hbm, ⟨14, _⟩ => ⟨S2x1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Prog.lean ====
/-
# `Prog`: the kernel's program as four loops over its eight chunks

The printed body is straight-line: eight copies of each phase, one per chunk of 64 rows. This module names the
phase of one chunk at a symbolic chunk number — wait for the staged rows, cast them into the wire buffer, start
the next staging copy, send the chunk (`sendPhase`); wait for the partner's chunk, forward it along the other
axis and copy it to the result (`relayPhase`); wait for the forwarded chunk (`recvPhase`); wait for the local
copy and the two sends (`drainPhase`) — and states that the printed body is the eight-fold chain of each
(`body_eq_loop`), by unfolding both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.SwapProof

open Cert.KernelIdeal Cert.KernelIdeal.Gen

open Idealize.ShloMosaic
open Idealize.ShloMosaic.TcCoe
open Idealize.SL Idealize.SL.Sem

variable {F : FTy → Type} [FloatOps F]

/-! ## The buffers -/

/-- The device's block of the operand. -/
abbrev xM : Memref sig .tc .hbm S1x1024x1024 .f32 := Memref.whole main_arg0
/-- The device's copy of the permutation. -/
abbrev piM : Memref sig .tc .hbm S2 .i32 := Memref.whole main_arg1
/-- The device's block of the result. -/
abbrev outM : Memref sig .tc .hbm S1x1024x1024 .bf16 := Memref.whole main_v1
/-- The two staging slots. -/
abbrev stM : Memref sig .tc .vmem S2x64x1024 .f32 := Memref.whole cc0_scratch0
/-- The wire buffer: the half of the operand this device sends. -/
abbrev wM : Memref sig .tc .vmem S512x1024 .bf16 := Memref.whole cc0_scratch1
/-- The landing buffer of the exchange along `y`. -/
abbrev yM : Memref sig .tc .vmem S512x1024 .bf16 := Memref.whole cc0_scratch2
/-- The permutation in scalar memory. -/
abbrev tabM : Memref sig .tc .smem S2 .i32 := Memref.whole cc0_scratch3

theorem inbX (d : Dev nD) (j : Fin 8) (a) : (k0_off3 d (BitVec.ofNat 32 (64 * j.val))) a + S1x64x1024.size a ≤ S1x1024x1024.size a := k0_off3_inb d j a
theorem inbW (j : Fin 8) : ∀ a, (![64 * j.val, 0] : Fin 2 → Nat) a + S64x1024.size a ≤ S512x1024.size a := by
  fin_cases j <;> decide
theorem inbS (s : Fin 2) : ∀ a, (![s.val, 0, 0] : Fin 3 → Nat) a + S1x64x1024.size a ≤ S2x64x1024.size a := by
  fin_cases s <;> decide

/-- The rectangle of chunk `j` in the half of a block device `d` handles. -/
abbrev rX (d : Dev nD) (j : Fin 8) : Rect S1x1024x1024 :=
  Rect.unit (s := S1x1024x1024) (k0_off3 d (BitVec.ofNat 32 (64 * j.val))) S1x64x1024.size (inbX d j)
/-- The rows of chunk `j` in a 512-row buffer. -/
abbrev rW (j : Fin 8) : Rect S512x1024 := Rect.unit (s := S512x1024) ![64 * j.val, 0] S64x1024.size (inbW j)
/-- The rows of slot `s` of the staging buffer. -/
abbrev rS (s : Fin 2) : Rect S2x64x1024 := Rect.unit (s := S2x64x1024) ![s.val, 0, 0] S1x64x1024.size (inbS s)

/-- Chunk `j` of the operand half device `d` handles. -/
abbrev xC (d : Dev nD) (j : Fin 8) : Memref sig .tc .hbm S64x1024 .f32 :=
  (xM.slice (rX d j) (fun _ => rfl)).squeeze S64x1024 squeezes_S1x64x1024_S64x1024
/-- Chunk `j` of the result half device `d` handles. -/
abbrev oC (d : Dev nD) (j : Fin 8) : Memref sig .tc .hbm S64x1024 .bf16 :=
  (outM.slice (rX d j) (fun _ => rfl)).squeeze S64x1024 squeezes_S1x64x1024_S64x1024
/-- Chunk `j` of the wire buffer. -/
abbrev wC (j : Fin 8) : Memref sig .tc .vmem S64x1024 .bf16 := wM.slice (rW j) (fun _ => rfl)
/-- Chunk `j` of the landing buffer. -/
abbrev yC (j : Fin 8) : Memref sig .tc .vmem S64x1024 .bf16 := yM.slice (rW j) (fun _ => rfl)
/-- Staging slot `s`. -/
abbrev sC (s : Fin 2) : Memref sig .tc .vmem S64x1024 .f32 :=
  (stM.slice (rS s) (fun _ => rfl)).squeeze S64x1024 squeezes_S1x64x1024_S64x1024

theorem wordsW (j : Fin 8) : (rW j).WholeWords (EltTy.packing .bf16) := by
  fin_cases j
  exacts [wordsbf16_S512x1024_S64x1024_0_0, wordsbf16_S512x1024_S64x1024_64_0, wordsbf16_S512x1024_S64x1024_128_0,
    wordsbf16_S512x1024_S64x1024_192_0, wordsbf16_S512x1024_S64x1024_256_0, wordsbf16_S512x1024_S64x1024_320_0,
    wordsbf16_S512x1024_S64x1024_384_0, wordsbf16_S512x1024_S64x1024_448_0]
theorem packedW (j : Fin 8) : (rW j).PackedRows (EltTy.packing .bf16) := by
  fin_cases j
  exacts [packedbf16_S512x1024_S64x1024_0_0, packedbf16_S512x1024_S64x1024_64_0, packedbf16_S512x1024_S64x1024_128_0,
    packedbf16_S512x1024_S64x1024_192_0, packedbf16_S512x1024_S64x1024_256_0, packedbf16_S512x1024_S64x1024_320_0,
    packedbf16_S512x1024_S64x1024_384_0, packedbf16_S512x1024_S64x1024_448_0]

theorem exactW (j : Fin 8) : (wC j).view.WordExact := (Memref.isWhole_whole _).wordExact_slice rfl _ (wordsW j)
theorem exactY (j : Fin 8) : (yC j).view.WordExact := (Memref.isWhole_whole _).wordExact_slice rfl _ (wordsW j)
theorem exactO (d : Dev nD) (j : Fin 8) : (oC d j).view.WordExact :=
  ((Memref.isWhole_whole _).wordExact_slice rfl _ (k0_off3_wordsbf16 d j)).reshape _ _
theorem exactX (d : Dev nD) (j : Fin 8) : (xC d j).view.WordExact := (View.wordExact_bits rfl).reshape _ _
theorem exactS (s : Fin 2) : (sC s).view.WordExact := (View.wordExact_bits rfl).reshape _ _

/-! ## The semaphores -/

/-- Slot `s`'s staging semaphore. -/
abbrev inS (s : Fin 2) : DmaSem sig := (⟨s.val, by omega⟩ : Fin 43)
/-- The permutation's semaphore. -/
abbrev piS : DmaSem sig := (2 : Fin 43)
/-- Chunk `j`'s local copy. -/
abbrev cpS (j : Fin 8) : DmaSem sig := (⟨3 + j.val, by omega⟩ : Fin 43)
/-- Chunk `j`'s send along `y`. -/
abbrev ysS (j : Fin 8) : DmaSem sig := (⟨11 + j.val, by omega⟩ : Fin 43)
/-- Chunk `j`'s landing along `y`. -/
abbrev yrS (j : Fin 8) : DmaSem sig := (⟨19 + j.val, by omega⟩ : Fin 43)
/-- Chunk `j`'s send along `x`. -/
abbrev xsS (j : Fin 8) : DmaSem sig := (⟨27 + j.val, by omega⟩ : Fin 43)
/-- Chunk `j`'s landing along `x`. -/
abbrev xrS (j : Fin 8) : DmaSem sig := (⟨35 + j.val, by omega⟩ : Fin 43)
/-- The runtime's barrier semaphore. -/
abbrev barS : Sem sig := (SemArray.scalar (d := (S_ : Shape).size) (sig.barrier 0 rfl : Sem sig) : Sems sig S_).sem

/-! ## The phases -/

/-- The kernel's programs. -/
abbrev KProg (F : FTy → Type) [FloatOps F] : Type 1 := Prog (TpuEff nD τ sig (Elt F) Λ₀ .tc) PUnit

/-- The slot chunk `j` is staged in. -/
def par (j : Fin 8) : Fin 2 := ⟨j.val % 2, Nat.mod_lt _ (by decide)⟩

/-- Start staging chunk `j`. -/
def stage (d : Dev nD) (j : Fin 8) (k : KProg F) : KProg F :=
  .op (.enqueueDma (xC d j) (.here (sC (par j))) (.dma (inS (par j))) (exactX d j) (exactS (par j)) ⟨Or.inl rfl, trivial⟩) fun _ => k

/-- Chunk `j` of the first phase, to the device `e`. -/
def sendPhase (d e : Dev nD) (j : Fin 8) (k : KProg F) : KProg F :=
  .op (.waitDma2 (inS (par j)) (xC d j) (sC (par j)) (exactX d j) (exactS (par j))) fun _ =>
  .op (.load stM (rS (par j)).toLoadRect (View.loadsAt_vmem h_S1x64x1024)) fun v =>
  .op (.load wM (rW j).toLoadRect (View.loadsAt_vmem h_S64x1024)) fun _ =>
  .op (.store wM (rW j) (k0_pay1 v) Finset.univ (View.stores_vmem h_S64x1024 ((Memref.isWhole_whole _).storeExact_slice rfl _ (packedW j)) (fun _ => rfl)) (.inl rfl)) fun _ =>
  (if h : j.val + 2 < 8 then stage d ⟨j.val + 2, h⟩ else id)
  (.op (.enqueueDma (wC j) (.remote (Dev.tc e) (yC j) (.dma (ysS j))) (.dma (yrS j)) (exactW j) (exactY j) ⟨⟨rfl, Or.inl rfl⟩, trivial⟩) fun _ => k)

/-- Chunk `j` of the second phase, to the device `e`. -/
def relayPhase (d e : Dev nD) (j : Fin 8) (k : KProg F) : KProg F :=
  .op (.waitDma2 (yrS j) (wC j) (yC j) (exactW j) (exactY j)) fun _ =>
  .op (.enqueueDma (yC j) (.remote (Dev.tc e) (oC d j) (.dma (xsS j))) (.dma (xrS j)) (exactY j) (exactO d j) ⟨⟨rfl, Or.inl rfl⟩, trivial⟩) fun _ =>
  .op (.enqueueDma (yC j) (.here (oC d j)) (.dma (cpS j)) (exactY j) (exactO d j) ⟨Or.inl rfl, trivial⟩) fun _ => k

/-- Chunk `j` of the third phase. -/
def recvPhase (d : Dev nD) (j : Fin 8) (k : KProg F) : KProg F :=
  .op (.waitDma2 (xrS j) (yC j) (oC d j) (exactY j) (exactO d j)) fun _ => k

/-- Chunk `j` of the last phase. -/
def drainPhase (d : Dev nD) (j : Fin 8) (k : KProg F) : KProg F :=
  .op (.waitDma2 (cpS j) (yC j) (oC d j) (exactY j) (exactO d j)) fun _ =>
  .op (.waitDma2 (ysS j) (yC j) (wC j) (exactY j) (exactW j)) fun _ =>
  .op (.waitDma2 (xsS j) (oC d j) (yC j) (exactO d j) (exactY j)) fun _ => k

/-- Eight chunks in order. -/
def chain8 (p : Fin 8 → KProg F → KProg F) (k : KProg F) : KProg F :=
  p 0 (p 1 (p 2 (p 3 (p 4 (p 5 (p 6 (p 7 k)))))))

/-- The kernel's body after the device's number is read. -/
def loop (d : Dev nD) : KProg F :=
  .op (.enqueueDma piM (.here tabM) (.dma piS) (Memref.isWhole_whole _).wordExact (Memref.isWhole_whole _).wordExact ⟨Or.inl rfl, trivial⟩) fun _ =>
  stage d 0 <| stage d 1 <|
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  .op (.semWait barS 2) fun _ =>
  .op (.waitDma2 piS piM tabM (Memref.isWhole_whole _).wordExact (Memref.isWhole_whole _).wordExact) fun _ =>
  smemLoadElt tabM (Rect.unit (s := S2) (k0_off2 d) S1.size (k0_off2_inb d)) (View.loads_smem_one rfl numel1_S1)
    (Shape.Idx.first (numel1_S1.symm ▸ Nat.one_pos)) fun w =>
  .op (.assume (k0_chk1 d w) (k0_chk1.dec d w)) fun hw =>
  chain8 (sendPhase d ⟨k0_dev3 d w, k0_dev3_lt d w hw.down⟩) <|
  chain8 (relayPhase d ⟨k0_dev11 d, k0_dev11_lt d⟩) <|
  chain8 (recvPhase d) <| chain8 (drainPhase d) <| .ret ⟨⟩

set_option maxRecDepth 65536 in
set_option maxHeartbeats 4000000 in
/-- The printed body is the loops. -/
theorem body_eq_loop (t : Fin cfg0.N) : (bodyAt0 t : KProg F) = .op .deviceId loop := rfl

end Cert.SwapProof

end
-- ==== Proof.Proto.lean ====
/-
# `Proto`: who tells whom what, and when

The exchange protocol of the kernel as a schedule of the rounds library. Device `c` has a partner along `y`
(`sy c`), a partner along `x` (`sx c`), and the device it exchanges halves with, `dst c`: `sy c` when the
permutation moves the blocks, itself when it leaves them in place. The cells of device `c`:

  * its barrier cell, two units, one from either partner. `sx c`'s unit hands over the half of `sx c`'s result that `c`
    will write; `sy c`'s unit hands over `sy c`'s landing buffer when the blocks move, and nothing otherwise;
  * four DMA cells a chunk: the send along `y` (its source back), the landing along `y` (the chunk of `dst c`),
    the send along `x` (the left half share of the landed chunk back) and the landing along `x` (the chunk `sx c` relays).

The three remaining kinds of copies — staging, the permutation, the local copy of a landed chunk — are local to the device.
-/
module

public import proofs.«01_k».proof.Proof.Prog

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's rounds. -/
abbrev UB : Type := URounds (GSem nD τ sig) Bool
/-- The pipeline library's rounds, the exchange's, and the counters of local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER : Emb UB 𝕄).LandsIn (upEmb : UEmb _ 𝕄) := by unfold ER embR; infer_instance

abbrev 𝒱₀ : Variants := Variants.none

/-! ## The mesh -/

set_option backward.proofsInPublic true in
/-- The partner along `y`. -/
def sy (c : Dev nD) : Dev nD := ⟨(2 * (c.val / 2) + 1) - c.val % 2, by have := c.isLt; show _ < 4; have : nD = 4 := rfl; omega⟩
set_option backward.proofsInPublic true in
/-- The partner along `x`. -/
def sx (c : Dev nD) : Dev nD := ⟨(c.val % 2 + 2) - 2 * (c.val / 2), by have := c.isLt; show _ < 4; have : nD = 4 := rfl; omega⟩
/-- The device whose half ends up on `c`. -/
def dst (σ : Bool) (c : Dev nD) : Dev nD := if σ then sy c else c

theorem sy_sy (c : Dev nD) : sy (sy c) = c := by revert c; decide
theorem sx_sx (c : Dev nD) : sx (sx c) = c := by revert c; decide
theorem sx_half (c : Dev nD) : (sx c).val / 2 = 1 - c.val / 2 := by revert c; decide
theorem dst_dst (σ : Bool) (c : Dev nD) : dst σ (dst σ c) = c := by cases σ; exacts [rfl, sy_sy c]

def eqvY : Dev nD ≃ Dev nD := ⟨sy, sy, sy_sy, sy_sy⟩
def eqvX : Dev nD ≃ Dev nD := ⟨sx, sx, sx_sx, sx_sx⟩
def eqvD (σ : Bool) : Dev nD ≃ Dev nD := ⟨dst σ, dst σ, dst_dst σ, dst_dst σ⟩

/-- The devices the program's arithmetic names. -/
theorem dev1_eq (c : Dev nD) : (⟨k0_dev1 c, k0_dev1_lt c⟩ : Dev nD) = sy c := Fin.ext (k0_dev1_eq c)
theorem dev2_eq (c : Dev nD) : (⟨k0_dev2 c, k0_dev2_lt c⟩ : Dev nD) = sx c := Fin.ext (k0_dev2_eq c)
theorem dev11_eq (c : Dev nD) : (⟨k0_dev11 c, k0_dev11_lt c⟩ : Dev nD) = sx c := Fin.ext (k0_dev11_eq c)

/-! ## The cells -/

/-- The exchange's cells of a device: the barrier, and four DMA cells a chunk — sends along `y`, landings along `y`, sends along
    `x`, landings along `x`. -/
abbrev CI : Type := Unit ⊕ (Fin 4 × Fin 8)

/-- The semaphore of a cell. -/
def csem : CI → SemLoc sig
  | .inl _ => .reg barS
  | .inr (k, j) => .dma (⟨11 + 8 * k.val + j.val, by omega⟩ : Fin 43)

/-- The cell of a DMA semaphore. -/
def dmaCode (q : Fin 43) : Option CI :=
  if h : 11 ≤ q.val then some (.inr (⟨(q.val - 11) / 8, by omega⟩, ⟨(q.val - 11) % 8, by omega⟩)) else none
/-- The cell of a semaphore. -/
def code : SemLoc sig → Option CI
  | .reg _ => some (.inl ())
  | .dma q => dmaCode q

theorem code_csem (k : CI) : code (csem k) = some k := by
  rcases k with _ | ⟨k, j⟩
  · rfl
  · show (if h : 11 ≤ 11 + 8 * k.val + j.val then some (Sum.inr ((⟨((11 + 8 * k.val + j.val) - 11) / 8, by omega⟩ : Fin 4), (⟨((11 + 8 * k.val + j.val) - 11) % 8, by omega⟩ : Fin 8))) else none) = _
    rw [dif_pos (by omega)]
    congr 3 <;> exact Fin.ext (by simp only []; omega)

theorem csem_injective : Function.Injective csem := fun a b h => by
  have := congrArg code h; rw [code_csem, code_csem] at this; exact Option.some.inj this

/-- Cell `k` of device `c`. -/
abbrev cell (c : Dev nD) (k : CI) : GSem nD τ sig := ((c : Thread nD τ), csem k)
abbrev barC (c : Dev nD) : GSem nD τ sig := cell c (.inl ())
abbrev ysC (c : Dev nD) (j : Fin 8) : GSem nD τ sig := cell c (.inr (0, j))
abbrev yrC (c : Dev nD) (j : Fin 8) : GSem nD τ sig := cell c (.inr (1, j))
abbrev xsC (c : Dev nD) (j : Fin 8) : GSem nD τ sig := cell c (.inr (2, j))
abbrev xrC (c : Dev nD) (j : Fin 8) : GSem nD τ sig := cell c (.inr (3, j))

theorem csem_ys (j : Fin 8) : csem (.inr (0, j)) = .dma (ysS j) := rfl
theorem csem_yr (j : Fin 8) : csem (.inr (1, j)) = .dma (yrS j) := rfl
theorem csem_xs (j : Fin 8) : csem (.inr (2, j)) = .dma (xsS j) := rfl
theorem csem_xr (j : Fin 8) : csem (.inr (3, j)) = .dma (xrS j) := rfl

theorem cell_inj {c c' : Dev nD} {k k' : CI} (h : cell c k = cell c' k') : c = c' ∧ k = k' :=
  ⟨congrArg (fun g : GSem nD τ sig => g.1.1) h, csem_injective (congrArg Prod.snd h)⟩

theorem code_cell (c : Dev nD) (k : CI) : code (cell c k).2 = some k := code_csem k

/-- What a copy of one bf16 chunk credits. -/
def N : ℕ := RefSig.tileCredit S64x1024 .bf16
/-- What a copy of one f32 chunk credits. -/
def NS : ℕ := RefSig.tileCredit S64x1024 .f32
/-- What the copy of the permutation credits. -/
def NP : ℕ := RefSig.tileCredit S2 .i32

theorem N_pos : 0 < N := View.dmaCredit_pos (yC 0).view (by decide)
theorem NS_pos : 0 < NS := View.dmaCredit_pos (sC 0).view (by decide)
theorem NP_pos : 0 < NP := View.dmaCredit_pos tabM.view (by decide)

theorem credit_wC (j : Fin 8) : (wC j).view.dmaCredit = N := rfl
theorem credit_yC (j : Fin 8) : (yC j).view.dmaCredit = N := rfl
theorem credit_oC (d : Dev nD) (j : Fin 8) : (oC d j).view.dmaCredit = N := rfl
theorem credit_sC (s : Fin 2) : (sC s).view.dmaCredit = NS := rfl
theorem credit_tab : tabM.view.dmaCredit = NP := rfl

/-! ## The contents -/

variable (σ : Bool) (m : (ℓ : Loc nD τ sig) → Buf (Elt F) ℓ)

/-- Chunk `j` of the half device `e` handles, as the wire carries it. -/
def chunk (e : Dev nD) (j : Fin 8) : S64x1024.Idx → Elt F .bf16 :=
  k0_pay1 ((xM.slice (rX e j) (fun _ => rfl)).view.read (Elt F) (m ((e : Thread nD τ).loc main_arg0)))

/-- The elements of a memref on device `c`, at some contents. -/
def some_ {sp : Space} {sh : Shape} {e : EltTy} (c : Dev nD) (M : Memref sig .tc sp sh e) : sProp 𝕄 :=
  iprop(∃ f, M.view.loc (c : Thread nD τ) ↦[M.view.set]{fullShare} f)

instance some_storable {sp : Space} {sh : Shape} {e : EltTy} (c : Dev nD) (M : Memref sig .tc sp sh e) :
    BI.Storable (upEmb : UEmb _ 𝕄) (some_ c M) := by unfold some_; infer_instance

theorem owns_some {sp : Space} {sh : Shape} {e : EltTy} (c : Dev nD) (M : Memref sig .tc sp sh e) (X : sh.Idx → Elt F e) :
    (owns (c : Thread nD τ) M fullShare X : sProp 𝕄) ⊢ some_ c M := by
  unfold owns some_; iintro ⟨%f, -, H⟩; iexists f; iexact H

/-- The eight chunks of `e`'s result that `c` writes. -/
def outLent (e c : Dev nD) : sProp 𝕄 := bigSep Finset.univ fun j : Fin 8 => some_ e (oC c j)
/-- The eight chunks of `e`'s landing buffer. -/
def landing (e : Dev nD) : sProp 𝕄 := bigSep Finset.univ fun j : Fin 8 => some_ e (yC j)

/-- What the units of a chunk's DMA cell hand over. -/
def xferPay (c : Dev nD) (k : Fin 4) (j : Fin 8) : sProp 𝕄 :=
  match k with
  | 0 => some_ c (wC j)
  | 1 => owns (c : Thread nD τ) (yC j) fullShare (chunk m (dst σ c) j)
  | 2 => owns (c : Thread nD τ) (yC j) fullShare.left (chunk m (dst σ c) j)
  | 3 => owns (c : Thread nD τ) (oC (sx c) j) fullShare (chunk m (dst σ (sx c)) j)

/-- What a unit of `c`'s barrier cell hands over. -/
def barPay (c : Dev nD) (d : Bool) : sProp 𝕄 :=
  if d then (if σ then landing (sy c) else iprop(emp)) else outLent (sx c) c

instance xferPay_storable (c : Dev nD) (k : Fin 4) (j : Fin 8) : BI.Storable (upEmb : UEmb _ 𝕄) (xferPay σ m c k j) := by
  unfold xferPay; split <;> infer_instance
instance barPay_storable (c : Dev nD) (d : Bool) : BI.Storable (upEmb : UEmb _ 𝕄) (barPay (F := F) σ c d) := by
  unfold barPay landing outLent; (repeat' split) <;> infer_instance

/-! ## The schedule -/

/-- One round a cell: a barrier cell has two duties of a unit each, a DMA cell one duty of a chunk's credit. -/
def Rd : Rounds.Schedule (GSem nD τ sig) Bool 𝕄 where
  duties g r := if r = 0 ∧ g.1.2 = .tc then (match code g.2 with | none => ∅ | some (.inl _) => Finset.univ | some (.inr _) => {false}) else ∅
  unitless _ := False
  amount g _ _ := match code g.2 with | some (.inr _) => N | _ => 1
  payload g _ d := match code g.2 with
    | none => iprop(emp)
    | some (.inl _) => barPay σ g.1.1 d
    | some (.inr (k, j)) => xferPay σ m g.1.1 k j
  amount_pos g _ _ _ := by
    split
    · exact N_pos
    · exact Nat.one_pos

instance Rd_payload_storable (g : GSem nD τ sig) (r : ℕ) (d : Bool) : BI.Storable (upEmb : UEmb _ 𝕄) ((Rd σ m).payload g r d) := by
  dsimp only [Rd]; split <;> infer_instance

theorem duties_bar (c : Dev nD) : (Rd σ m).duties (barC c) 0 = Finset.univ := by
  dsimp only [Rd]; rw [if_pos ⟨rfl, rfl⟩, code_csem]
theorem duties_x (c : Dev nD) (kj : Fin 4 × Fin 8) : (Rd σ m).duties (cell c (.inr kj)) 0 = {false} := by
  dsimp only [Rd]; rw [if_pos ⟨rfl, rfl⟩, code_csem]
theorem duties_later (g : GSem nD τ sig) : ∀ r, 1 ≤ r → (Rd σ m).duties g r = ∅ :=
  fun r hr => by dsimp only [Rd]; rw [if_neg fun h => by omega]
theorem amount_bar (c : Dev nD) (d : Bool) : (Rd σ m).amount (barC c) 0 d = 1 := by
  dsimp only [Rd]; rw [code_csem]
theorem amount_x (c : Dev nD) (kj : Fin 4 × Fin 8) (d : Bool) : (Rd σ m).amount (cell c (.inr kj)) 0 d = N := by
  dsimp only [Rd]; rw [code_csem]
theorem payload_bar (c : Dev nD) (d : Bool) : (Rd σ m).payload (barC c) 0 d = barPay σ c d := by
  dsimp only [Rd]; rw [code_csem]
theorem payload_x (c : Dev nD) (k : Fin 4) (j : Fin 8) (d : Bool) : (Rd σ m).payload (cell c (.inr (k, j))) 0 d = xferPay σ m c k j := by
  dsimp only [Rd]; rw [code_csem]
theorem expect_bar (c : Dev nD) : (Rd σ m).expect (barC c) 0 = 2 := by
  unfold Schedule.expect Schedule.amountOf
  rw [duties_bar, Finset.sum_congr rfl fun d _ => amount_bar σ m c d, Finset.sum_const, Finset.card_univ, Fintype.card_bool, smul_eq_mul]
theorem expect_x (c : Dev nD) (kj : Fin 4 × Fin 8) : (Rd σ m).expect (cell c (.inr kj)) 0 = N := by
  unfold Schedule.expect Schedule.amountOf; rw [duties_x, Finset.sum_singleton, amount_x]

/-- All that a barrier's round hands over. -/
theorem rest_bar (c : Dev nD) : bigSep ((Rd σ m).duties (barC c) 0 \ ∅) (fun d => (Rd σ m).payload (barC c) 0 d)
    = iprop(barPay σ c false ∗ barPay σ c true) := by
  rw [Finset.sdiff_empty, duties_bar, bigSep_univ_eq_bigSepL [false, true] (by decide) (by decide), bigSepL_cons_cons, bigSepL_singleton,
    payload_bar, payload_bar]
  rfl
/-- All that a DMA cell's round hands over. -/
theorem rest_x (c : Dev nD) (k : Fin 4) (j : Fin 8) :
    bigSep ((Rd σ m).duties (cell c (.inr (k, j))) 0 \ ∅) (fun d => (Rd σ m).payload (cell c (.inr (k, j))) 0 d) = xferPay σ m c k j := by
  rw [Finset.sdiff_empty, duties_x, bigSep_singleton, payload_x]

/-! ## What each device owes; the levels -/

/-- The owed units of the chunks from `n` on. -/
def tail (f : Fin 8 → CellTallies nD τ sig Unit) (n : ℕ) : CellTallies nD τ sig Unit := ∑ j ∈ Finset.univ.filter (fun j : Fin 8 => n ≤ j.val), f j

theorem tail_step (f : Fin 8 → CellTallies nD τ sig Unit) (j : Fin 8) : tail f j.val = tail f (j.val + 1) + f j := by
  unfold tail
  have h : Finset.univ.filter (fun i : Fin 8 => j.val ≤ i.val) = insert j (Finset.univ.filter (fun i : Fin 8 => j.val + 1 ≤ i.val)) := by
    ext i
    simp only [Finset.mem_filter, Finset.mem_univ, true_and, Finset.mem_insert, Fin.ext_iff]; omega
  rw [h, Finset.sum_insert (by simp), add_comm]
theorem tail_end (f : Fin 8 → CellTallies nD τ sig Unit) : tail f 8 = 0 := by
  unfold tail
  rw [Finset.filter_eq_empty_iff.mpr (fun i _ => by omega), Finset.sum_empty]

theorem tail_pos {f : Fin 8 → CellTallies nD τ sig Unit} {n : ℕ} {g : GSem nD τ sig} {u : Unit} (h : 0 < tail f n g u) : ∃ j, 0 < f j g u := by
  unfold tail at h
  rw [Finset.sum_apply, Finsupp.finset_sum_apply] at h
  obtain ⟨j, -, hj⟩ := Finset.exists_ne_zero_of_sum_ne_zero h.ne'
  exact ⟨j, Nat.pos_of_ne_zero hj⟩

/-- The landings along `y` device `c` owes, from chunk `n` on. -/
def Oy (c : Dev nD) (n : ℕ) : CellTallies nD τ sig Unit := tail (fun j => tallyAt (yrC (dst σ c) j) () N) n
/-- The landings along `x` device `c` owes, from chunk `n` on. -/
def Ox (c : Dev nD) (n : ℕ) : CellTallies nD τ sig Unit := tail (fun j => tallyAt (xrC (sx c) j) () N) n
/-- All a device owes at launch. -/
def O₀ (c : Dev nD) : CellTallies nD τ sig Unit :=
  (Oy σ c 0 + Ox c 0 + tallyAt (barC (sx c)) () 1) + tallyAt (barC (sy c)) () 1

def L (g : GSem nD τ sig) : Finset Unit := if g.1.2 = .tc then {()} else ∅
/-- Barrier cells at 1, landings along `y` at 2, landings along `x` at 3, all other cells at 0. -/
def lv (g : GSem nD τ sig) (_ : Unit) : ℕ :=
  match code g.2 with
  | some (.inl _) => 1
  | some (.inr (1, _)) => 2
  | some (.inr (3, _)) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by unfold lv; rw [code_csem]
theorem lv_yr (c : Dev nD) (j : Fin 8) : lv (yrC c j) () = 2 := by unfold lv; rw [code_csem]; rfl
theorem lv_xr (c : Dev nD) (j : Fin 8) : lv (xrC c j) () = 3 := by unfold lv; rw [code_csem]; rfl

/-- Every cell of `O` is a core's and above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {g : GSem nD τ sig} {k : ℕ} (h : g.1.2 = .tc ∧ n < lv g ()) : Above n (tallyAt g () k) := fun g' u hg => by
  rw [tallyAt_apply] at hg
  by_cases h' : g' = g ∧ u = ()
  · rw [h'.1]; exact h
  · rw [if_neg h'] at hg; exact absurd hg (Nat.lt_irrefl 0)
theorem above_tail {n : ℕ} {f : Fin 8 → CellTallies nD τ sig Unit} (h : ∀ j, Above n (f j)) (i : ℕ) : Above n (tail f i) := fun g u hg =>
  let ⟨j, hj⟩ := tail_pos hg
  h j g u hj
theorem above_Oy {n : ℕ} (hn : n < 2) (c : Dev nD) (i : ℕ) : Above n (Oy σ c i) :=
  above_tail (fun j => above_tally ⟨rfl, by rw [lv_yr]; exact hn⟩) i
theorem above_Ox {n : ℕ} (hn : n < 3) (c : Dev nD) (i : ℕ) : Above n (Ox c i) :=
  above_tail (fun j => above_tally ⟨rfl, by rw [lv_xr]; exact hn⟩) i
theorem above_O₀ (c : Dev nD) : Above 0 (O₀ σ c) := by
  unfold O₀
  exact above_add (above_add (above_add (above_Oy σ (by decide) c 0) (above_Ox (by decide) c 0)) (above_tally ⟨rfl, by rw [lv_bar]; decide⟩))
    (above_tally ⟨rfl, by rw [lv_bar]; decide⟩)

/-- A device may wait on a cell below everything it owes. -/
theorem mayWait {n : ℕ} (c : Dev nD) (sm : SemLoc sig) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A local copy's cell is at level 0. -/
theorem lv_local (c : Dev nD) (q : Fin 43) (hq : q.val < 11) : lv ((c : Thread nD τ), (.dma (q : DmaSem sig) : SemLoc sig)) () ≤ 0 := by
  have h : code (.dma (q : DmaSem sig) : SemLoc sig) = none := dif_neg (by omega)
  unfold lv; rw [h]

/-! ## The records every device holds -/

/-- Every cell's invariant, and that every cell is at round 0. -/
def records (K : Dev nD × CI → ℕ) : sProp 𝕄 :=
  iprop((bigSep Finset.univ fun ck : Dev nD × CI => cellInv ER (Rd σ m) (K ck) (cell ck.1 ck.2))
    ∗ bigSep Finset.univ fun ck : Dev nD × CI => reached ER (cell ck.1 ck.2) 0)

instance records_persistent (K : Dev nD × CI → ℕ) : BI.Persistent (records σ m K) := by unfold records; infer_instance

theorem inv_all (K : Dev nD × CI → ℕ) (ck : Dev nD × CI) :
    (bigSep Finset.univ fun ck : Dev nD × CI => (cellInv ER (Rd σ m) (K ck) (cell ck.1 ck.2) : sProp 𝕄)) ⊢ cellInv ER (Rd σ m) (K ck) (cell ck.1 ck.2) :=
  bigSep_elim (Finset.mem_univ ck)
theorem reached_all (ck : Dev nD × CI) :
    (bigSep Finset.univ fun ck : Dev nD × CI => (reached ER (cell ck.1 ck.2) 0 : sProp 𝕄)) ⊢ reached ER (cell ck.1 ck.2) 0 :=
  bigSep_elim (Finset.mem_univ ck)
theorem inv_at (K : Dev nD × CI → ℕ) (c : Dev nD) (k : CI) : records σ m K ⊢ cellInv ER (Rd σ m) (K (c, k)) (cell c k) := by
  unfold records; iintro ⟨H, -⟩
  iapply (inv_all σ m K (c, k)); iexact H
theorem reached_at (K : Dev nD × CI → ℕ) (c : Dev nD) (k : CI) : records σ m K ⊢ reached ER (cell c k) 0 := by
  unfold records; iintro ⟨-, H⟩
  iapply (reached_all (F := F) (c, k)); iexact H

end Cert.SwapProof

end
-- ==== Proof.Phases.lean ====
/-
# `Phases`: the four loops of the kernel

Each phase is proved for one chunk at a symbolic chunk number, as a rule with a continuation: from the state of the
loop before chunk `j` (`S j`) and what the chunk needs (`pre j`), running the chunk leaves the state before chunk
`j + 1` and what the chunk made (`post j`). `chain8_wp` turns such a rule into the rule of the eight chunks in order.
-/
module

public import proofs.«01_k».proof.Proof.Proto
public import Idealize.ShloMosaic.Lib.MemrefSat

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` may run `p` to a result in `Q`. -/
abbrev WP (c : Dev nD) (p : KProg F) (Q : PUnit → sProp 𝕄) : sProp 𝕄 :=
  wp frame (wpE (defs₀ (F := F)) 𝒱₀ (c : Thread nD τ) none) Set.univ p Q

/-! ## Eight chunks in order -/

/-- The chunks before `n` done, the others not yet. -/
def upto (pre post : Fin 8 → sProp 𝕄) (n : ℕ) : sProp 𝕄 := bigSep Finset.univ fun j : Fin 8 => if j.val < n then post j else pre j

theorem upto_zero (pre post : Fin 8 → sProp 𝕄) : upto pre post 0 = bigSep Finset.univ pre :=
  bigSep_congr fun j _ => if_neg (by omega)
theorem upto_end (pre post : Fin 8 → sProp 𝕄) : upto pre post 8 = bigSep Finset.univ post :=
  bigSep_congr fun j _ => if_pos j.isLt

/-- Chunk `j` taken out undone and put back done. -/
theorem upto_step (pre post : Fin 8 → sProp 𝕄) (j : Fin 8) :
    upto pre post j.val ⊢ iprop(pre j ∗ (post j -∗ upto pre post (j.val + 1))) := by
  unfold upto
  rw [bigSep_univ_at _ j, bigSep_univ_at (fun i : Fin 8 => if i.val < j.val + 1 then post i else pre i) j, if_neg (Nat.lt_irrefl _), if_pos (Nat.lt_succ_self _),
    bigSep_congr (s := Finset.univ.erase j) (Ψ := fun i : Fin 8 => if i.val < j.val + 1 then post i else pre i) fun i hi => by
      have : i.val ≠ j.val := fun h => Finset.ne_of_mem_erase hi (Fin.ext h)
      by_cases h : i.val < j.val
      · rw [if_pos h, if_pos (by omega)]
      · rw [if_neg h, if_neg (by omega)]]
  iintro ⟨H, Hr⟩
  isplitl [H]; · iexact H
  iintro Hp
  isplitl [Hp]; · iexact Hp
  iexact Hr

theorem chunk_wp (c : Dev nD) {p : Fin 8 → KProg F → KProg F} {S : ℕ → sProp 𝕄} {pre post : Fin 8 → sProp 𝕄} {Q : PUnit → sProp 𝕄}
    (h : ∀ j k, iprop(S j.val ∗ pre j ∗ ((S (j.val + 1) ∗ post j) -∗ WP c k Q)) ⊢ WP c (p j k) Q) (j : Fin 8) (k : KProg F) :
    iprop(S j.val ∗ upto pre post j.val ∗ ((S (j.val + 1) ∗ upto pre post (j.val + 1)) -∗ WP c k Q)) ⊢ WP c (p j k) Q := by
  iintro ⟨HS, HU, Hk⟩
  ihave HU := (upto_step pre post j) $$ HU
  icases HU with ⟨Hp, HU⟩
  iapply (h j k)
  isplitl [HS]; · iexact HS
  isplitl [Hp]; · iexact Hp
  iintro ⟨HS, Hp⟩
  iapply Hk
  isplitl [HS]; · iexact HS
  iapply HU; iexact Hp

/-- The rule of a chunk gives the rule of the eight chunks in order. -/
theorem chain8_wp (c : Dev nD) {p : Fin 8 → KProg F → KProg F} {S : ℕ → sProp 𝕄} {pre post : Fin 8 → sProp 𝕄} {Q : PUnit → sProp 𝕄}
    (h : ∀ j k, iprop(S j.val ∗ pre j ∗ ((S (j.val + 1) ∗ post j) -∗ WP c k Q)) ⊢ WP c (p j k) Q) (k : KProg F) :
    iprop(S 0 ∗ bigSep Finset.univ pre ∗ ((S 8 ∗ bigSep Finset.univ post) -∗ WP c k Q)) ⊢ WP c (chain8 p k) Q := by
  rw [← upto_zero pre post, ← upto_end pre post]
  have hc := chunk_wp c h
  unfold chain8
  have step : ∀ (j : Fin 8) (k k' : KProg F), (iprop(S (j.val + 1) ∗ upto pre post (j.val + 1) ∗ ((S 8 ∗ upto pre post 8) -∗ WP c k Q)) ⊢ WP c k' Q) →
      iprop(S j.val ∗ upto pre post j.val ∗ ((S 8 ∗ upto pre post 8) -∗ WP c k Q)) ⊢ WP c (p j k') Q := fun j k k' hk => by
    iintro ⟨HS, HU, Hk⟩
    iapply (hc j k')
    isplitl [HS]; · iexact HS
    isplitl [HU]; · iexact HU
    iintro ⟨HS, HU⟩
    iapply hk
    isplitl [HS]; · iexact HS
    isplitl [HU]; · iexact HU
    iexact Hk
  exact step 0 k _ <| step 1 k _ <| step 2 k _ <| step 3 k _ <| step 4 k _ <| step 5 k _ <| step 6 k _ <| hc 7 k

/-! ## Staging -/

variable (σ : Bool) (m : (ℓ : Loc nD τ sig) → Buf (Elt F) ℓ)

/-- A squeezed slice reads its slice's contents at the squeezed index: equal squeezed contents are equal contents. -/
theorem squeeze_read_inj {sp sp' : Space} {e : EltTy} (A : Memref sig .tc sp S1x64x1024 e) (B : Memref sig .tc sp' S1x64x1024 e)
    (f : A.view.ty.Contents (Elt F)) (g : B.view.ty.Contents (Elt F))
    (h : (A.squeeze S64x1024 squeezes_S1x64x1024_S64x1024).view.read (Elt F) f = (B.squeeze S64x1024 squeezes_S1x64x1024_S64x1024).view.read (Elt F) g) :
    A.view.read (Elt F) f = B.view.read (Elt F) g := by
  funext y
  have := congrFun h ((Shape.reshapeEquiv squeezes_S1x64x1024_S64x1024.numel_eq).symm y)
  change A.view.read (Elt F) f (Shape.reshapeEquiv squeezes_S1x64x1024_S64x1024.numel_eq _) = B.view.read (Elt F) g (Shape.reshapeEquiv squeezes_S1x64x1024_S64x1024.numel_eq _) at this
  rwa [Equiv.apply_symm_apply] at this

/-- The share of the operand a staging slot reads through. -/
def shr (s : Fin 2) : PosShare TreeShare := if s = 0 then fullShare.left else fullShare.right

/-- The operand's contents on device `c`. -/
abbrev arg0 (c : Dev nD) : Buf (Elt F) ((c : Thread nD τ).loc main_arg0) := m ((c : Thread nD τ).loc main_arg0)
/-- Chunk `j` of the operand. -/
def xRead (c : Dev nD) (j : Fin 8) : S64x1024.Idx → Elt F .f32 := (xC c j).view.read (Elt F) (arg0 m c)

/-- What the staging copy of chunk `j` delivers. -/
def staged (c : Dev nD) (j : Fin 8) : sProp 𝕄 :=
  iprop(owns (c : Thread nD τ) (sC (par j)) fullShare (xRead m c j)
    ∗ ((xC c j).view.loc (c : Thread nD τ) ↦[(xC c j).view.set]{shr (par j)} arg0 m c))

/-- A staging slot not in use. -/
def slotIdle (c : Dev nD) (s : Fin 2) : sProp 𝕄 :=
  iprop(semVal ((c : Thread nD τ), .dma (inS s)) 0 ∗ some_ c (sC s) ∗ ((c : Thread nD τ).loc main_arg0 ↦{shr s} arg0 m c))
/-- A staging slot with chunk `j` on its way. -/
def slotFly (c : Dev nD) (j : Fin 8) : sProp 𝕄 :=
  iprop(Transfers.Flight EC (c : Thread nD τ) (.dma (inS (par j))) () NS (staged m c j)
    ∗ ((c : Thread nD τ).loc main_arg0 ↦[Finset.univ \ (xC c j).view.set]{shr (par j)} arg0 m c))

theorem stage_wp (c : Dev nD) (j : Fin 8) (k : KProg F) (Q : PUnit → sProp 𝕄) :
    iprop(slotIdle m c (par j) ∗ (slotFly m c j -∗ WP c k Q)) ⊢ WP c (stage c j k) Q := by
  unfold stage slotIdle some_
  iintro ⟨⟨Hv, ⟨%fd, Hd⟩, Hx⟩, Hk⟩
  ihave Hx := (pointsTo_split_subset (Finset.subset_univ (xC c j).view.set)).1 $$ Hx
  icases Hx with ⟨Hx, Hrest⟩
  iapply (Transfers.wp_dmaLocal EC 𝒱₀ (c : Thread nD τ) none (src := xC c j) (dst := sC (par j)) () NS rfl NS_pos subset_rfl) $$ [Hv Hd Hx]
  · isplitl [Hx]; · iexact Hx
    isplitl [Hd]; · iexact Hd
    iexact Hv
  iintro Hf
  iapply Hk
  unfold slotFly
  isplitl [Hf]
  · iapply (Transfers.Flight_mono EC (c : Thread nD τ) ?_) $$ Hf
    unfold staged owns
    iintro ⟨Hd, Hx⟩
    isplitl [Hd]
    · iexists _
      isplitr
      rotate_left
      · iexact Hd
      · ipureintro
        rw [View.read_write_univ]; rfl
    · iexact Hx
  · iexact Hrest

theorem stageWait_wp (c : Dev nD) (j : Fin 8) (O : CellTallies nD τ sig Unit) (W : Waits sig Unit) {k : PUnit → KProg F} {Q : PUnit → sProp 𝕄}
    {h₁ : (xC c j).view.WordExact} {h₂ : (sC (par j)).view.WordExact} :
    iprop(slotFly m c j ∗ owes (c : Thread nD τ) O W ∗ MayWait (c : Thread nD τ) (.dma (inS (par j))) () O
      ∗ ((semVal ((c : Thread nD τ), .dma (inS (par j))) 0 ∗ owns (c : Thread nD τ) (sC (par j)) fullShare (xRead m c j)
          ∗ ((c : Thread nD τ).loc main_arg0 ↦{shr (par j)} arg0 m c) ∗ ∃ W, owes (c : Thread nD τ) O W) -∗ WP c (k ⟨⟩) Q))
      ⊢ WP c (.op (.waitDma2 (inS (par j)) (xC c j) (sC (par j)) h₁ h₂) k) Q := by
  unfold slotFly
  iintro ⟨⟨Hf, Hrest⟩, HO, Hmw, Hk⟩
  iapply (Transfers.wp_waitLocalO EC 𝒱₀ (c : Thread nD τ) none () (N := NS) rfl (O := O) (W := W)) $$ [Hf HO Hmw]
  · isplitl [Hf]; · iexact Hf
    isplitl [HO]; · iexact HO
    iexact Hmw
  iintro ⟨HD, Hv, HO⟩
  unfold staged
  icases HD with ⟨Hs, Hx⟩
  iapply Hk
  isplitl [Hv]; · iexact Hv
  isplitl [Hs]; · iexact Hs
  isplitl [Hx Hrest]
  · iapply (pointsTo_split_subset (Finset.subset_univ (xC c j).view.set)).2
    isplitl [Hx]; · iexact Hx
    iexact Hrest
  · iexists _; iexact HO

/-- The slot of chunk `n`: that chunk on its way, or past the last chunk idle. -/
def slotAt (c : Dev nD) (n : ℕ) : sProp 𝕄 := if h : n < 8 then slotFly m c ⟨n, h⟩ else slotIdle m c ⟨n % 2, Nat.mod_lt _ (by decide)⟩

/-! ## The first phase: cast and send along `y` -/

section Body

variable (K : Dev nD × CI → ℕ)

theorem Oy_step (c : Dev nD) (j : Fin 8) :
    Oy σ c j.val + Ox c 0 = (Oy σ c (j.val + 1) + Ox c 0) + tallyAt (yrC (dst σ c) j) () N := by
  unfold Oy; rw [tail_step, add_right_comm]
theorem Ox_step (c : Dev nD) (j : Fin 8) : Ox c j.val = Ox c (j.val + 1) + tallyAt (xrC (sx c) j) () N := by
  unfold Ox; rw [tail_step]

/-- The send of chunk `j` along `y`: the wire chunk reads `X = chunk c j`; it comes back at the send cell's wait, and lands
    on `dst c` as the chunk of `c`. -/
theorem wp_send_y (c : Dev nD) (j : Fin 8) {k : PUnit → KProg F} {Q : PUnit → sProp 𝕄} {hsc}
    {h₁ : (wC j).view.WordExact} {h₂ : (yC j).view.WordExact} {h₃}
    (fs : Buf (Elt F) ((wC j).view.loc (c : Thread nD τ))) (hfs : (wC j).view.read (Elt F) fs = chunk m c j)
    (fd : Buf (Elt F) ((yC j).view.loc (dst σ c : Thread nD τ))) (O : CellTallies nD τ sig Unit) (W : Waits sig Unit) :
    iprop(cellInv ER (Rd σ m) (K (c, .inr (0, j))) (ysC c j) ∗ cellInv ER (Rd σ m) (K (dst σ c, .inr (1, j))) (yrC (dst σ c) j)
        ∗ ((wC j).view.loc (c : Thread nD τ) ↦[(wC j).view.set]{fullShare} fs)
        ∗ ((yC j).view.loc (dst σ c : Thread nD τ) ↦[(yC j).view.set]{fullShare} fd)
        ∗ owes (c : Thread nD τ) (O + tallyAt (yrC (dst σ c) j) () N) W
        ∗ dutyTok ER (ysC c j) 0 false ∗ reached ER (ysC c j) 0
        ∗ dutyTok ER (yrC (dst σ c) j) 0 false ∗ reached ER (yrC (dst σ c) j) 0)
      ⊢ iprop(((cred (tallyAt (ysC c j) () N) ∗ owes (c : Thread nD τ) O W) -∗ WP c (k ⟨⟩) Q)
          -∗ WP c (.op (.enqueueDma (wC j) (.remote (Dev.tc (dst σ c)) (yC j) (.dma (ysS j)) hsc) (.dma (yrS j)) h₁ h₂ h₃) k) Q) :=
  Rounds.wp_send_pointsTo 𝒱₀ ER (Rd σ m) (c : Thread nD τ) none (κ₁ := K (c, .inr (0, j))) (κ₂ := K (dst σ c, .inr (1, j)))
    (r₁ := 0) (r₂ := 0) (d₁ := false) (d₂ := false) (fd := fd) (sS := .dma (ysS j)) (sem := .dma (yrS j))
    (by rw [← csem_ys, duties_x]; exact Finset.mem_singleton_self _) (by rw [← csem_yr]; erw [duties_x]; exact Finset.mem_singleton_self _)
    () () N rfl (amount_x σ m c (0, j) false) (amount_x σ m (dst σ c) (1, j) false) O rfl (W := W)
    (by
      refine BIBase.Entails.trans ?_ (Entails.of_eq (payload_x σ m c 0 j false).symm)
      unfold xferPay some_; dsimp only
      iintro H; iexists fs; iexact H)
    (by
      refine BIBase.Entails.trans ?_ (Entails.of_eq (payload_x σ m (dst σ c) 1 j false).symm)
      unfold xferPay; dsimp only
      rw [dst_dst, ← hfs]
      refine (owns_intro (dst σ c : Thread nD τ) (yC j) fullShare _).trans (Entails.of_eq ?_)
      rw [View.read_write_univ])

/-- The loop's state before chunk `n` of the first phase. -/
def S₁ (c : Dev nD) (n : ℕ) : sProp 𝕄 :=
  iprop(records σ m K ∗ levAts L lv ∗ slotAt m c n ∗ slotAt m c (n + 1) ∗ ∃ W, owes (c : Thread nD τ) (Oy σ c n + Ox c 0) W)
/-- What chunk `j` of the first phase needs: its rows of the wire buffer, its place on `dst c`, the two tokens. -/
def pre₁ (c : Dev nD) (j : Fin 8) : sProp 𝕄 :=
  iprop(some_ c (wC j) ∗ some_ (dst σ c) (yC j) ∗ dutyTok ER (ysC c j) 0 false ∗ dutyTok ER (yrC (dst σ c) j) 0 false)
/-- What it leaves: the right to wait for the send. -/
def post₁ (c : Dev nD) (j : Fin 8) : sProp 𝕄 := cred (tallyAt (ysC c j) () N)

theorem slotAt_lt (c : Dev nD) (j : Fin 8) : slotAt m c j.val = slotFly m c j := dif_pos j.isLt

/-- After chunk `j` its slot takes chunk `j + 2`, if there is one. -/
theorem restage_wp (c : Dev nD) (j : Fin 8) (k : KProg F) (Q : PUnit → sProp 𝕄) :
    iprop(slotIdle m c (par j) ∗ (slotAt m c (j.val + 2) -∗ WP c k Q))
      ⊢ WP c ((if h : j.val + 2 < 8 then stage c ⟨j.val + 2, h⟩ else id) k) Q := by
  by_cases h : j.val + 2 < 8
  · rw [dif_pos h]
    have hp : par ⟨j.val + 2, h⟩ = par j := Fin.ext (by unfold par; simp only [Nat.add_mod_right])
    unfold slotAt; rw [dif_pos h, ← hp]
    exact stage_wp m c ⟨j.val + 2, h⟩ k Q
  · rw [dif_neg h]
    have hp : (⟨(j.val + 2) % 2, Nat.mod_lt _ (by decide)⟩ : Fin 2) = par j := Fin.ext (by unfold par; simp only [Nat.add_mod_right])
    unfold slotAt; rw [dif_neg h, hp]
    iintro ⟨H, Hk⟩
    iapply Hk; iexact H

theorem send_chunk (c : Dev nD) (Q : PUnit → sProp 𝕄) (j : Fin 8) (k : KProg F) :
    iprop(S₁ σ m K c j.val ∗ pre₁ σ c j ∗ ((S₁ σ m K c (j.val + 1) ∗ post₁ c j) -∗ WP c k Q)) ⊢ WP c (sendPhase c (dst σ c) j k) Q := by
  unfold sendPhase S₁ pre₁
  rw [slotAt_lt]
  iintro ⟨⟨#HR, #Hlev, Hslot, Hslot', ⟨%W, HO⟩⟩, ⟨Hw, Hy, Hts, Htr⟩, Hk⟩
  iapply (stageWait_wp m c j (Oy σ c j.val + Ox c 0) W)
  isplitl [Hslot]; · iexact Hslot
  isplitl [HO]; · iexact HO
  isplitr
  · iapply (mayWait c (.dma (inS (par j))) (lv_local c _ (by have := (par j).isLt; show (par j).val < 11; omega))
      (above_add (above_Oy σ (by decide) c _) (above_Ox (by decide) c _))); iexact Hlev
  iintro ⟨Hv, Hs, Hx, ⟨%W', HO⟩⟩
  unfold owns some_
  icases Hs with ⟨%fs, %hfs, Hs⟩
  iapply (wp_load_rect 𝒱₀ (c : Thread nD τ) none Set.univ (m := stM) (r := rS (par j)) (S := (sC (par j)).view.set)
    (View.set_reshape _ _).ge) $$ Hs
  iintro Hs
  icases Hw with ⟨%fw, Hw⟩
  iapply (wp_load_rect 𝒱₀ (c : Thread nD τ) none Set.univ (m := wM) (r := rW j) (S := (wC j).view.set) subset_rfl) $$ Hw
  iintro Hw
  iapply (wp_store 𝒱₀ (c : Thread nD τ) none Set.univ (m := wM) (r := rW j) (Mk := Finset.univ) (S := (wC j).view.set) subset_rfl) $$ Hw
  iintro Hw
  iapply (restage_wp m c j)
  isplitl [Hv Hs Hx]
  · unfold slotIdle some_
    isplitl [Hv]; · iexact Hv
    isplitl [Hs]; · iexists fs; iexact Hs
    iexact Hx
  iintro Hslot
  icases Hy with ⟨%fd, Hy⟩
  rw [Oy_step]
  have hv : k0_pay1 ((stM.access (rS (par j))).read (Elt F) fs) = chunk m c j :=
    congrArg k0_pay1 (squeeze_read_inj (stM.slice (rS (par j)) (fun _ => rfl)) (xM.slice (rX c j) (fun _ => rfl)) fs (arg0 m c) hfs)
  iapply (wp_send_y σ m K c j ((wC j).view.write (Elt F) fw (k0_pay1 ((stM.access (rS (par j))).read (Elt F) fs)) Finset.univ)
    (by rw [View.read_write_univ]; exact hv) fd _ W') $$ [Hw Hy HO Hts Htr]
  · isplitr; · iapply (inv_at σ m K c (.inr (0, j))); iexact HR
    isplitr; · iapply (inv_at σ m K (dst σ c) (.inr (1, j))); iexact HR
    isplitl [Hw]; · iexact Hw
    isplitl [Hy]; · iexact Hy
    isplitl [HO]; · iexact HO
    isplitl [Hts]; · iexact Hts
    isplitr; · iapply (reached_at σ m K c (.inr (0, j))); iexact HR
    isplitl [Htr]; · iexact Htr
    iapply (reached_at σ m K (dst σ c) (.inr (1, j))); iexact HR
  iintro ⟨Hc, HO⟩
  iapply Hk
  isplitr [Hc]
  · isplitr; · iexact HR
    isplitr; · iexact Hlev
    isplitl [Hslot']; · iexact Hslot'
    isplitl [Hslot]; · iexact Hslot
    iexists W'; iexact HO
  · unfold post₁; iexact Hc

/-! ## Waiting for a chunk's DMA cell -/

/-- The round's payload at the semaphore written out. -/
theorem rest_dma (c : Dev nD) (t : Fin 4) (j : Fin 8) (h : 11 + 8 * t.val + j.val < 43) :
    bigSep ((Rd σ m).duties ((c : Thread nD τ), SemLoc.dma (⟨11 + 8 * t.val + j.val, h⟩ : Fin 43)) 0 \ ∅)
        (fun d => (Rd σ m).payload ((c : Thread nD τ), SemLoc.dma (⟨11 + 8 * t.val + j.val, h⟩ : Fin 43)) 0 d) ⊢ xferPay σ m c t j :=
  Entails.of_eq (rest_x σ m c t j)

/-- The wait on a chunk's DMA cell: the cell moves past its round and hands over the round's payload. -/
theorem wp_wait_x (c : Dev nD) (t : Fin 4) (j : Fin 8) {sm : DmaSem sig} (hsm : csem (.inr (t, j)) = .dma sm) {sp sp' : Space} {s s' : Shape} {e e' : EltTy}
    {src : Memref sig .tc sp s e} {dstw : Memref sig .tc sp' s' e'} (hN : dstw.view.dmaCredit = N) {h₁ : src.view.WordExact} {h₂ : dstw.view.WordExact}
    (O : CellTallies nD τ sig Unit) (W : Waits sig Unit) {k : PUnit → KProg F} {Q : PUnit → sProp 𝕄} :
    iprop(cellInv ER (Rd σ m) (K (c, .inr (t, j))) (cell c (.inr (t, j))) ∗ cred (tallyAt (cell c (.inr (t, j))) () N) ∗ owes (c : Thread nD τ) O W
        ∗ MayWait (c : Thread nD τ) (csem (.inr (t, j))) () O ∗ atPos ER (cell c (.inr (t, j))) 0 ∅ 0
        ∗ (((∃ W, owes (c : Thread nD τ) O W) ∗ atPos ER (cell c (.inr (t, j))) 1 ∅ 0 ∗ xferPay σ m c t j) -∗ WP c (k ⟨⟩) Q))
      ⊢ WP c (.op (.waitDma2 sm src dstw h₁ h₂) k) Q := by
  obtain rfl := SemLoc.dma.inj hsm
  iintro ⟨HI, Hc, HO, Hmw, Hat, Hk⟩
  iapply (Rounds.wp_wait_rest_token 𝒱₀ ER (Rd σ m) (c : Thread nD τ) none (κ := K (c, .inr (t, j)))
      (wpE_waitDma2_eq 𝒱₀ (c : Thread nD τ) none Set.univ) (Set.mem_univ _) () (O := O) (W := W) (R := 0) (m := 0) (T := ∅)
      (by rw [Nat.zero_add, hN]; exact (expect_x σ m c (t, j)).symm)) $$ [HI Hc HO Hmw Hat]
  · isplitl [HI]; · iexact HI
    isplitl [Hc]; · rw [hN]; iexact Hc
    isplitl [HO]; · iexact HO
    isplitl [Hmw]; · iexact Hmw
    iexact Hat
  iintro ⟨HO, Hat, -, Hpay⟩
  ihave Hp := (rest_dma σ m c t j _) $$ Hpay
  iapply Hk
  isplitl [HO]; · iexists _; iexact HO
  isplitl [Hat]; · iexact Hat
  iexact Hp

theorem pay_ys (c : Dev nD) (j : Fin 8) : xferPay σ m c 0 j ⊢ some_ c (wC j) := BI.Entails.refl _
theorem pay_yr (c : Dev nD) (j : Fin 8) : xferPay σ m c 1 j ⊢ owns (c : Thread nD τ) (yC j) fullShare (chunk m (dst σ c) j) := BI.Entails.refl _
theorem pay_xs (c : Dev nD) (j : Fin 8) : xferPay σ m c 2 j ⊢ owns (c : Thread nD τ) (yC j) fullShare.left (chunk m (dst σ c) j) :=
  BI.Entails.refl _
theorem pay_xr (c : Dev nD) (j : Fin 8) : xferPay σ m c 3 j ⊢ owns (c : Thread nD τ) (oC (sx c) j) fullShare (chunk m (dst σ (sx c)) j) :=
  BI.Entails.refl _

/-! ## The second phase: relay along `x`, keep a copy -/

/-- The send of chunk `j` along `x`: the left half share of the landed chunk comes back at the send cell's wait, and the
    chunk lands in `sx c`'s result. -/
theorem wp_send_x (c : Dev nD) (j : Fin 8) {k : PUnit → KProg F} {Q : PUnit → sProp 𝕄} {hsc}
    {h₁ : (yC j).view.WordExact} {h₂ : (oC c j).view.WordExact} {h₃}
    (fs : Buf (Elt F) ((yC j).view.loc (c : Thread nD τ))) (hfs : (yC j).view.read (Elt F) fs = chunk m (dst σ c) j)
    (fd : Buf (Elt F) ((oC c j).view.loc (sx c : Thread nD τ))) (O : CellTallies nD τ sig Unit) (W : Waits sig Unit) :
    iprop(cellInv ER (Rd σ m) (K (c, .inr (2, j))) (xsC c j) ∗ cellInv ER (Rd σ m) (K (sx c, .inr (3, j))) (xrC (sx c) j)
        ∗ ((yC j).view.loc (c : Thread nD τ) ↦[(yC j).view.set]{fullShare.left} fs)
        ∗ ((oC c j).view.loc (sx c : Thread nD τ) ↦[(oC c j).view.set]{fullShare} fd)
        ∗ owes (c : Thread nD τ) (O + tallyAt (xrC (sx c) j) () N) W
        ∗ dutyTok ER (xsC c j) 0 false ∗ reached ER (xsC c j) 0
        ∗ dutyTok ER (xrC (sx c) j) 0 false ∗ reached ER (xrC (sx c) j) 0)
      ⊢ iprop(((cred (tallyAt (xsC c j) () N) ∗ owes (c : Thread nD τ) O W) -∗ WP c (k ⟨⟩) Q)
          -∗ WP c (.op (.enqueueDma (yC j) (.remote (Dev.tc (sx c)) (oC c j) (.dma (xsS j)) hsc) (.dma (xrS j)) h₁ h₂ h₃) k) Q) :=
  Rounds.wp_send_pointsTo 𝒱₀ ER (Rd σ m) (c : Thread nD τ) none (κ₁ := K (c, .inr (2, j))) (κ₂ := K (sx c, .inr (3, j)))
    (r₁ := 0) (r₂ := 0) (d₁ := false) (d₂ := false) (fd := fd) (sS := .dma (xsS j)) (sem := .dma (xrS j))
    (by rw [← csem_xs, duties_x]; exact Finset.mem_singleton_self _) (by rw [← csem_xr]; erw [duties_x]; exact Finset.mem_singleton_self _)
    () () N rfl (amount_x σ m c (2, j) false) (amount_x σ m (sx c) (3, j) false) O rfl (W := W)
    (by
      refine BIBase.Entails.trans ?_ (Entails.of_eq (payload_x σ m c 2 j false).symm)
      unfold xferPay; dsimp only
      rw [← hfs]
      exact owns_intro (c : Thread nD τ) (yC j) fullShare.left fs)
    (by
      refine BIBase.Entails.trans ?_ (Entails.of_eq (payload_x σ m (sx c) 3 j false).symm)
      unfold xferPay; dsimp only
      rw [sx_sx, ← hfs]
      refine (owns_intro (sx c : Thread nD τ) (oC c j) fullShare _).trans (Entails.of_eq ?_)
      rw [View.read_write_univ])

def S₂ (c : Dev nD) (n : ℕ) : sProp 𝕄 := iprop(records σ m K ∗ levAts L lv ∗ ∃ W, owes (c : Thread nD τ) (Ox c n) W)
/-- What the local copy of chunk `j` delivers: the chunk in `c`'s own result, and the right half share of the landed chunk back. -/
def kept (c : Dev nD) (j : Fin 8) : sProp 𝕄 :=
  iprop(owns (c : Thread nD τ) (oC c j) fullShare (chunk m (dst σ c) j) ∗ owns (c : Thread nD τ) (yC j) fullShare.right (chunk m (dst σ c) j))
def pre₂ (c : Dev nD) (j : Fin 8) : sProp 𝕄 :=
  iprop(cred (tallyAt (yrC c j) () N) ∗ atPos ER (yrC c j) 0 ∅ 0 ∗ dutyTok ER (xsC c j) 0 false ∗ dutyTok ER (xrC (sx c) j) 0 false
    ∗ some_ (sx c) (oC c j) ∗ some_ c (oC c j) ∗ semVal ((c : Thread nD τ), .dma (cpS j)) 0)
def post₂ (c : Dev nD) (j : Fin 8) : sProp 𝕄 :=
  iprop(atPos ER (yrC c j) 1 ∅ 0 ∗ cred (tallyAt (xsC c j) () N)
    ∗ Transfers.Flight EC (c : Thread nD τ) (.dma (cpS j)) () N (kept σ m c j))

theorem relay_chunk (c : Dev nD) (Q : PUnit → sProp 𝕄) (j : Fin 8) (k : KProg F) :
    iprop(S₂ σ m K c j.val ∗ pre₂ c j ∗ ((S₂ σ m K c (j.val + 1) ∗ post₂ σ m c j) -∗ WP c k Q)) ⊢ WP c (relayPhase c (sx c) j k) Q := by
  unfold relayPhase S₂ pre₂
  iintro ⟨⟨#HR, #Hlev, ⟨%W, HO⟩⟩, ⟨Hc, Hat, Hts, Htr, Hox, Ho, Hv⟩, Hk⟩
  iapply (wp_wait_x σ m K c 1 j (csem_yr j) (dstw := yC j) rfl (Ox c j.val) W)
  isplitr; · iapply (inv_at σ m K c (.inr (1, j))); iexact HR
  isplitl [Hc]; · iexact Hc
  isplitl [HO]; · iexact HO
  isplitr
  · iapply (mayWait c (csem (.inr (1, j))) (lv_yr c j).le (above_Ox (by decide) c _)); iexact Hlev
  isplitl [Hat]; · iexact Hat
  iintro ⟨⟨%W', HO⟩, Hat, Hpay⟩
  ihave Hy := (pay_yr σ m c j) $$ Hpay
  unfold owns some_
  icases Hy with ⟨%fy, %hfy, Hy⟩
  ihave Hy := (pointsTo_share (PosShare.mem_left_op_right fullShare)).1 $$ Hy
  icases Hy with ⟨Hl, Hr⟩
  icases Hox with ⟨%fx, Hox⟩
  icases Ho with ⟨%fo, Ho⟩
  rw [Ox_step]
  iapply (wp_send_x σ m K c j fy hfy fx _ W') $$ [Hl Hox HO Hts Htr]
  · isplitr; · iapply (inv_at σ m K c (.inr (2, j))); iexact HR
    isplitr; · iapply (inv_at σ m K (sx c) (.inr (3, j))); iexact HR
    isplitl [Hl]; · iexact Hl
    isplitl [Hox]; · iexact Hox
    isplitl [HO]; · iexact HO
    isplitl [Hts]; · iexact Hts
    isplitr; · iapply (reached_at σ m K c (.inr (2, j))); iexact HR
    isplitl [Htr]; · iexact Htr
    iapply (reached_at σ m K (sx c) (.inr (3, j))); iexact HR
  iintro ⟨Hcx, HO⟩
  iapply (Transfers.wp_dmaLocal EC 𝒱₀ (c : Thread nD τ) none (src := yC j) (dst := oC c j) () N rfl N_pos subset_rfl) $$ [Hr Ho Hv]
  · isplitl [Hr]; · iexact Hr
    isplitl [Ho]; · iexact Ho
    iexact Hv
  iintro Hf
  iapply Hk
  isplitl [HO]
  · isplitr; · iexact HR
    isplitr; · iexact Hlev
    iexists W'; iexact HO
  unfold post₂
  isplitl [Hat]; · iexact Hat
  isplitl [Hcx]; · iexact Hcx
  iapply (Transfers.Flight_mono EC (c : Thread nD τ) ?_) $$ Hf
  unfold kept owns
  iintro ⟨Hd, Hr⟩
  isplitl [Hd]
  · iexists _
    isplitr
    rotate_left
    · iexact Hd
    · ipureintro
      rw [View.read_write_univ]; exact hfy
  · iexists fy; isplitr
    · ipureintro; exact hfy
    · iexact Hr

/-! ## The third phase: the other half arrives -/

def S₃ (c : Dev nD) (_ : ℕ) : sProp 𝕄 := iprop(records σ m K ∗ ∃ W, owes (c : Thread nD τ) 0 W)
def pre₃ (c : Dev nD) (j : Fin 8) : sProp 𝕄 := iprop(cred (tallyAt (xrC c j) () N) ∗ atPos ER (xrC c j) 0 ∅ 0)
def post₃ (c : Dev nD) (j : Fin 8) : sProp 𝕄 :=
  iprop(atPos ER (xrC c j) 1 ∅ 0 ∗ owns (c : Thread nD τ) (oC (sx c) j) fullShare (chunk m (dst σ (sx c)) j))

theorem recv_chunk (c : Dev nD) (Q : PUnit → sProp 𝕄) (j : Fin 8) (k : KProg F) :
    iprop(S₃ σ m K c j.val ∗ pre₃ c j ∗ ((S₃ σ m K c (j.val + 1) ∗ post₃ σ m c j) -∗ WP c k Q)) ⊢ WP c (recvPhase c j k) Q := by
  unfold recvPhase S₃ pre₃
  iintro ⟨⟨#HR, ⟨%W, HO⟩⟩, ⟨Hc, Hat⟩, Hk⟩
  iapply (wp_wait_x σ m K c 3 j (csem_xr j) (dstw := oC c j) rfl 0 W)
  isplitr; · iapply (inv_at σ m K c (.inr (3, j))); iexact HR
  isplitl [Hc]; · iexact Hc
  isplitl [HO]; · iexact HO
  isplitr; · rw [MayWait_zero]; iempintro
  isplitl [Hat]; · iexact Hat
  iintro ⟨HO, Hat, Hpay⟩
  iapply Hk
  isplitl [HO]
  · isplitr; · iexact HR
    iexact HO
  unfold post₃
  isplitl [Hat]; · iexact Hat
  iapply (pay_xr σ m c j); iexact Hpay

/-! ## The last phase: the sends and the local copies complete -/

def pre₄ (c : Dev nD) (j : Fin 8) : sProp 𝕄 :=
  iprop(Transfers.Flight EC (c : Thread nD τ) (.dma (cpS j)) () N (kept σ m c j)
    ∗ cred (tallyAt (ysC c j) () N) ∗ atPos ER (ysC c j) 0 ∅ 0 ∗ cred (tallyAt (xsC c j) () N) ∗ atPos ER (xsC c j) 0 ∅ 0)
def post₄ (c : Dev nD) (j : Fin 8) : sProp 𝕄 :=
  iprop(semVal ((c : Thread nD τ), .dma (cpS j)) 0 ∗ atPos ER (ysC c j) 1 ∅ 0 ∗ atPos ER (xsC c j) 1 ∅ 0
    ∗ some_ c (wC j) ∗ some_ c (yC j) ∗ owns (c : Thread nD τ) (oC c j) fullShare (chunk m (dst σ c) j))

theorem drain_chunk (c : Dev nD) (Q : PUnit → sProp 𝕄) (j : Fin 8) (k : KProg F) :
    iprop(S₃ σ m K c j.val ∗ pre₄ σ m c j ∗ ((S₃ σ m K c (j.val + 1) ∗ post₄ σ m c j) -∗ WP c k Q)) ⊢ WP c (drainPhase c j k) Q := by
  unfold drainPhase S₃ pre₄
  iintro ⟨⟨#HR, ⟨%W, HO⟩⟩, ⟨Hf, Hcy, Haty, Hcx, Hatx⟩, Hk⟩
  iapply (Transfers.wp_waitLocalO EC 𝒱₀ (c : Thread nD τ) none () (N := N) rfl (O := 0) (W := W)) $$ [Hf HO]
  · isplitl [Hf]; · iexact Hf
    isplitl [HO]; · iexact HO
    rw [MayWait_zero]; iempintro
  iintro ⟨HD, Hv, HO⟩
  iapply (wp_wait_x σ m K c 0 j (csem_ys j) (dstw := wC j) rfl 0 _)
  isplitr; · iapply (inv_at σ m K c (.inr (0, j))); iexact HR
  isplitl [Hcy]; · iexact Hcy
  isplitl [HO]; · iexact HO
  isplitr; · rw [MayWait_zero]; iempintro
  isplitl [Haty]; · iexact Haty
  iintro ⟨⟨%W', HO⟩, Haty, Hw⟩
  iapply (wp_wait_x σ m K c 2 j (csem_xs j) (dstw := yC j) rfl 0 _)
  isplitr; · iapply (inv_at σ m K c (.inr (2, j))); iexact HR
  isplitl [Hcx]; · iexact Hcx
  isplitl [HO]; · iexact HO
  isplitr; · rw [MayWait_zero]; iempintro
  isplitl [Hatx]; · iexact Hatx
  iintro ⟨HO, Hatx, Hl⟩
  iapply Hk
  isplitl [HO]
  · isplitr; · iexact HR
    iexact HO
  unfold post₄ kept
  icases HD with ⟨Ho, Hr⟩
  isplitl [Hv]; · iexact Hv
  isplitl [Haty]; · iexact Haty
  isplitl [Hatx]; · iexact Hatx
  isplitl [Hw]; · iapply (pay_ys σ m c j); iexact Hw
  ihave Hl := (pay_xs σ m c j) $$ Hl
  isplitl [Hl Hr]
  · iapply (owns_some c (yC j) (chunk m (dst σ c) j))
    iapply (owns_halves (c : Thread nD τ) (yC j) fullShare (chunk m (dst σ c) j)).2
    isplitl [Hl]; · iexact Hl
    iexact Hr
  iexact Ho

end Body

end Cert.SwapProof

end
-- ==== Proof.Body.lean ====
/-
# `Body`: one device's run

The prologue (the permutation copied to scalar memory, the first two chunks staged, the barrier handshake, the partner
read), then the four loops of `Phases`, from what a device starts with (`bodyPre`) to what it ends with (`bodyPost`).
-/
module

public import proofs.«01_k».proof.Proof.Phases

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Bool) (m : (ℓ : Loc nD τ sig) → Buf (Elt F) ℓ) (K : Dev nD × CI → ℕ)

/-- A persistent fact beside every member of a family. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A family over the eight chunks. -/
abbrev each (Φ : Fin 8 → sProp 𝕄) : sProp 𝕄 := bigSep Finset.univ Φ

/-- A cell past its only round closes: its counter is the device's again, at zero. -/
theorem close_cell (c : Dev nD) (k : CI) :
    iprop(records σ m K ∗ atPos ER (cell c k) 1 ∅ 0) ⊢ |={Set.univ}=> semVal (cell c k) 0 := by
  iintro ⟨#HR, H⟩
  imod (Rounds.cell_close ER (Rd σ m) (Set.mem_univ (K (c, k))) (fun h => h) (R := 0 + 1) (duties_later σ m (cell c k))) $$ [H] with Hz
  · isplitr; · iapply (inv_at σ m K c k); iexact HR
    iexact H
  imodintro; iexact Hz

theorem close_each (c : Dev nD) (t : Fin 4) :
    iprop(records σ m K ∗ each fun j => atPos ER (cell c (.inr (t, j))) 1 ∅ 0) ⊢ |={Set.univ}=> each fun j => semVal (cell c (.inr (t, j))) 0 :=
  (with_each (R := records σ m K) fun j _ => close_cell σ m K c (.inr (t, j))).trans (bigSep_fupd _ _)

/-! ## What a device starts and ends with -/

/-- The counters of a device's local copies, at zero. -/
def localSems (c : Dev nD) : sProp 𝕄 :=
  iprop(semVal ((c : Thread nD τ), .dma (inS 0)) 0 ∗ semVal ((c : Thread nD τ), .dma (inS 1)) 0 ∗ semVal ((c : Thread nD τ), .dma piS) 0
    ∗ each fun j => semVal ((c : Thread nD τ), .dma (cpS j)) 0)
/-- The scratch buffers in the pieces the kernel handles, at some contents. -/
def scratch (c : Dev nD) : sProp 𝕄 :=
  iprop(some_ c (sC 0) ∗ some_ c (sC 1) ∗ (each fun j => some_ c (wC j)) ∗ (each fun j => some_ c (yC j)) ∗ some_ c tabM)
/-- The operand and the permutation, as at the start. -/
def inputs (c : Dev nD) : sProp 𝕄 :=
  iprop(((c : Thread nD τ).loc main_arg0 ↦{fullShare} arg0 m c) ∗ ((c : Thread nD τ).loc main_arg1 ↦{fullShare} m ((c : Thread nD τ).loc main_arg1)))
/-- The result in its sixteen pieces, at some contents. -/
def outAny (c : Dev nD) : sProp 𝕄 := iprop((each fun j => some_ c (oC c j)) ∗ each fun j => some_ c (oC (sx c) j))
/-- The result in its sixteen pieces: the half `c` handles from `dst c`, the other half from `dst (sx c)`. -/
def outDone (c : Dev nD) : sProp 𝕄 :=
  iprop((each fun j => owns (c : Thread nD τ) (oC c j) fullShare (chunk m (dst σ c) j))
    ∗ each fun j => owns (c : Thread nD τ) (oC (sx c) j) fullShare (chunk m (dst σ (sx c)) j))
/-- The tokens of the duties a device pays. -/
def payToks (c : Dev nD) : sProp 𝕄 :=
  iprop(dutyTok ER (barC (sy c)) 0 true ∗ dutyTok ER (barC (sx c)) 0 false
    ∗ (each fun j => dutyTok ER (ysC c j) 0 false) ∗ (each fun j => dutyTok ER (yrC (dst σ c) j) 0 false)
    ∗ (each fun j => dutyTok ER (xsC c j) 0 false) ∗ each fun j => dutyTok ER (xrC (sx c) j) 0 false)
/-- A device's positions at round `R` of its cells. -/
def posns (c : Dev nD) (R : ℕ) : sProp 𝕄 :=
  iprop(atPos ER (barC c) R ∅ 0 ∗ (each fun j => atPos ER (ysC c j) R ∅ 0) ∗ (each fun j => atPos ER (yrC c j) R ∅ 0)
    ∗ (each fun j => atPos ER (xsC c j) R ∅ 0) ∗ each fun j => atPos ER (xrC c j) R ∅ 0)
/-- The credits a device is given at the start. -/
def credits (c : Dev nD) : sProp 𝕄 :=
  iprop(cred (tallyAt (barC c) () 2) ∗ (each fun j => cred (tallyAt (yrC c j) () N)) ∗ each fun j => cred (tallyAt (xrC c j) () N))
/-- The counters of a device's exchange cells, at zero. -/
def cellSems (c : Dev nD) : sProp 𝕄 :=
  iprop(semVal (barC c) 0 ∗ (each fun j => semVal (ysC c j) 0) ∗ (each fun j => semVal (yrC c j) 0)
    ∗ (each fun j => semVal (xsC c j) 0) ∗ each fun j => semVal (xrC c j) 0)

/-- What device `c`'s body starts from. -/
def bodyPre (c : Dev nD) : sProp 𝕄 :=
  iprop(records σ m K ∗ levAts L lv ∗ (∃ W, owes (c : Thread nD τ) (O₀ σ c) W) ∗ localSems c ∗ scratch c ∗ inputs m c ∗ outAny c
    ∗ payToks σ c ∗ posns c 0 ∗ credits c)
/-- What it ends with. -/
def bodyPost (c : Dev nD) : sProp 𝕄 :=
  iprop((∃ W, owes (c : Thread nD τ) 0 W) ∗ localSems c ∗ cellSems c ∗ scratch c ∗ inputs m c ∗ outDone σ m c)

theorem close_all (c : Dev nD) : iprop(records σ m K ∗ posns c 1) ⊢ |={Set.univ}=> cellSems (F := F) c := by
  unfold posns cellSems
  iintro ⟨#HR, Hb, H0, H1, H2, H3⟩
  imod (close_cell σ m K c (.inl ())) $$ [Hb] with Hb
  · isplitr; · iexact HR
    iexact Hb
  imod (close_each σ m K c 0) $$ [H0] with H0
  · isplitr; · iexact HR
    iexact H0
  imod (close_each σ m K c 1) $$ [H1] with H1
  · isplitr; · iexact HR
    iexact H1
  imod (close_each σ m K c 2) $$ [H2] with H2
  · isplitr; · iexact HR
    iexact H2
  imod (close_each σ m K c 3) $$ [H3] with H3
  · isplitr; · iexact HR
    iexact H3
  imodintro
  isplitl [Hb]; · iexact Hb
  isplitl [H0]; · iexact H0
  isplitl [H1]; · iexact H1
  isplitl [H2]; · iexact H2
  iexact H3

/-! ## The loops -/

/-- What the loops start from: the first two chunks staged, and every chunk's pieces, tokens, positions and credits. -/
def loopsPre (c : Dev nD) : sProp 𝕄 :=
  iprop(records σ m K ∗ levAts L lv ∗ slotFly m c 0 ∗ slotFly m c 1 ∗ (∃ W, owes (c : Thread nD τ) (Oy σ c 0 + Ox c 0) W)
    ∗ (each fun j => some_ c (wC j)) ∗ (each fun j => some_ (dst σ c) (yC j))
    ∗ (each fun j => some_ c (oC c j)) ∗ (each fun j => some_ (sx c) (oC c j))
    ∗ (each fun j => semVal ((c : Thread nD τ), .dma (cpS j)) 0)
    ∗ ((each fun j => dutyTok ER (ysC c j) 0 false) ∗ (each fun j => dutyTok ER (yrC (dst σ c) j) 0 false)
      ∗ (each fun j => dutyTok ER (xsC c j) 0 false) ∗ each fun j => dutyTok ER (xrC (sx c) j) 0 false)
    ∗ ((each fun j => atPos ER (ysC c j) 0 ∅ 0) ∗ (each fun j => atPos ER (yrC c j) 0 ∅ 0)
      ∗ (each fun j => atPos ER (xsC c j) 0 ∅ 0) ∗ each fun j => atPos ER (xrC c j) 0 ∅ 0)
    ∗ (each fun j => cred (tallyAt (yrC c j) () N)) ∗ each fun j => cred (tallyAt (xrC c j) () N))

/-- What they end with. -/
def loopsPost (c : Dev nD) : sProp 𝕄 :=
  iprop((∃ W, owes (c : Thread nD τ) 0 W) ∗ slotIdle m c 0 ∗ slotIdle m c 1
    ∗ (each fun j => some_ c (wC j)) ∗ (each fun j => some_ c (yC j)) ∗ outDone σ m c
    ∗ (each fun j => semVal ((c : Thread nD τ), .dma (cpS j)) 0)
    ∗ ((each fun j => atPos ER (ysC c j) 1 ∅ 0) ∗ (each fun j => atPos ER (yrC c j) 1 ∅ 0)
      ∗ (each fun j => atPos ER (xsC c j) 1 ∅ 0) ∗ each fun j => atPos ER (xrC c j) 1 ∅ 0))

theorem slotAt_8 (c : Dev nD) : slotAt m c 8 = slotIdle m c 0 := dif_neg (by decide)
theorem slotAt_9 (c : Dev nD) : slotAt m c (8 + 1) = slotIdle m c 1 := dif_neg (by decide)

theorem loops_wp (c : Dev nD) (Q : PUnit → sProp 𝕄) :
    iprop(loopsPre σ m K c ∗ (loopsPost σ m c -∗ |={Set.univ}=> Q ⟨⟩))
      ⊢ WP c (chain8 (sendPhase c (dst σ c)) <| chain8 (relayPhase c (sx c)) <| chain8 (recvPhase c) <| chain8 (drainPhase c) <| .ret ⟨⟩) Q := by
  unfold loopsPre
  iintro ⟨⟨#HR, #Hlev, Hs0, Hs1, HO, Hw, Hy, Ho, Hox, Hcp, ⟨Ht0, Ht1, Ht2, Ht3⟩, ⟨Ha0, Ha1, Ha2, Ha3⟩, Hcy, Hcx⟩, HQ⟩
  iapply (chain8_wp c (S := S₁ σ m K c) (pre := pre₁ σ c) (post := post₁ c) (send_chunk σ m K c Q))
  isplitl [Hs0 Hs1 HO]
  · unfold S₁
    isplitr; · iexact HR
    isplitr; · iexact Hlev
    isplitl [Hs0]; · iapply (Entails.of_eq (slotAt_lt m c 0).symm); iexact Hs0
    isplitl [Hs1]; · iapply (Entails.of_eq (slotAt_lt m c 1).symm); iexact Hs1
    iexact HO
  isplitl [Hw Hy Ht0 Ht1]
  · unfold pre₁; simp only [bigSep_sep']
    isplitl [Hw]; · iexact Hw
    isplitl [Hy]; · iexact Hy
    isplitl [Ht0]; · iexact Ht0
    iexact Ht1
  iintro ⟨HS, Hp1⟩
  unfold S₁
  icases HS with ⟨-, -, Hs0, Hs1, ⟨%W, HO⟩⟩
  iapply (chain8_wp c (S := S₂ σ m K c) (pre := pre₂ c) (post := post₂ σ m c) (relay_chunk σ m K c Q))
  isplitl [HO]
  · unfold S₂
    isplitr; · iexact HR
    isplitr; · iexact Hlev
    iexists W
    iapply (Entails.of_eq (congrArg (fun O => owes (c : Thread nD τ) O W) (show Oy σ c 8 + Ox c 0 = Ox c 0 by unfold Oy; rw [tail_end, zero_add])))
    iexact HO
  isplitl [Hcy Ha1 Ht2 Ht3 Hox Ho Hcp]
  · unfold pre₂; simp only [bigSep_sep']
    isplitl [Hcy]; · iexact Hcy
    isplitl [Ha1]; · iexact Ha1
    isplitl [Ht2]; · iexact Ht2
    isplitl [Ht3]; · iexact Ht3
    isplitl [Hox]; · iexact Hox
    isplitl [Ho]; · iexact Ho
    iexact Hcp
  iintro ⟨HS, Hp2⟩
  unfold S₂ post₂
  simp only [bigSep_sep']
  icases HS with ⟨-, -, ⟨%W', HO⟩⟩
  icases Hp2 with ⟨Ha1, Hcxs, Hf⟩
  iapply (chain8_wp c (S := S₃ σ m K c) (pre := pre₃ c) (post := post₃ σ m c) (recv_chunk σ m K c Q))
  isplitl [HO]
  · unfold S₃
    isplitr; · iexact HR
    iexists W'
    iapply (Entails.of_eq (congrArg (fun O => owes (c : Thread nD τ) O W') (show Ox c 8 = 0 by unfold Ox; rw [tail_end])))
    iexact HO
  isplitl [Hcx Ha3]
  · unfold pre₃; simp only [bigSep_sep']
    isplitl [Hcx]; · iexact Hcx
    iexact Ha3
  iintro ⟨HS, Hp3⟩
  unfold post₃
  simp only [bigSep_sep']
  icases Hp3 with ⟨Ha3, Ho'⟩
  iapply (chain8_wp c (S := S₃ σ m K c) (pre := pre₄ σ m c) (post := post₄ σ m c) (drain_chunk σ m K c Q))
  isplitl [HS]; · unfold S₃; iexact HS
  isplitl [Hf Hp1 Ha0 Hcxs Ha2]
  · unfold pre₄; simp only [bigSep_sep']
    isplitl [Hf]; · iexact Hf
    isplitl [Hp1]; · unfold post₁; iexact Hp1
    isplitl [Ha0]; · iexact Ha0
    isplitl [Hcxs]; · iexact Hcxs
    iexact Ha2
  iintro ⟨HS, Hp4⟩
  unfold S₃ post₄
  simp only [bigSep_sep']
  icases HS with ⟨-, HO⟩
  icases Hp4 with ⟨Hcp, Ha0, Ha2, Hw, Hy, Ho⟩
  unfold WP; rw [wp_ret]
  iapply HQ
  unfold loopsPost outDone
  isplitl [HO]; · iexact HO
  isplitl [Hs0]; · iapply (Entails.of_eq (slotAt_8 m c)); iexact Hs0
  isplitl [Hs1]; · iapply (Entails.of_eq (slotAt_9 m c)); iexact Hs1
  isplitl [Hw]; · iexact Hw
  isplitl [Hy]; · iexact Hy
  isplitl [Ho Ho']
  · isplitl [Ho]; · iexact Ho
    iexact Ho'
  isplitl [Hcp]; · iexact Hcp
  isplitl [Ha0]; · iexact Ha0
  isplitl [Ha1]; · iexact Ha1
  isplitl [Ha2]; · iexact Ha2
  iexact Ha3

/-! ## The prologue -/

set_option backward.proofsInPublic true in
/-- Entry `c % 2` of a pair. -/
def permIdx (c : Dev nD) : S2.Idx := fun a => ⟨c.val % 2, by fin_cases a; exact Nat.mod_lt _ (by decide)⟩
/-- The word of the permutation device `c` reads: entry `c % 2`. -/
def permWord (c : Dev nD) : BitVec 32 := (m ((c : Thread nD τ).loc main_arg1) : S2.Idx → BitVec 32) (permIdx c)

/-- A word that names a column: the device named is that column's in `c`'s row. -/
theorem chk_of (c : Dev nD) : k0_chk1 c (BitVec.ofNat 32 ((dst σ c).val % 2)) := by
  revert c; cases σ <;> decide
theorem dev3_of (c : Dev nD) : k0_dev3 c (BitVec.ofNat 32 ((dst σ c).val % 2)) = (dst σ c).val := by
  revert c; cases σ <;> decide

theorem dev3_eq (c : Dev nD) {w : BitVec 32} (hw : w = BitVec.ofNat 32 ((dst σ c).val % 2)) (h : k0_dev3 c w < nD) : (⟨k0_dev3 c w, h⟩ : Dev nD) = dst σ c := by
  subst hw; exact Fin.ext (dev3_of σ c)

/-- The word loaded is the permutation's. -/
theorem word_eq (c : Dev nD) (x : (Rect.unit (s := S2) (k0_off2 c) S1.size (k0_off2_inb c)).shape.Idx) :
    (tabM.access (Rect.unit (s := S2) (k0_off2 c) S1.size (k0_off2_inb c))).read (Elt F) (m ((c : Thread nD τ).loc main_arg1)) x = permWord m c := by
  unfold permWord
  refine congrArg (m ((c : Thread nD τ).loc main_arg1) : S2.Idx → BitVec 32) (funext fun a => Fin.ext ?_)
  have hx : (x a).val < 1 := by have := (x a).isLt; fin_cases a; exact this
  show (k0_off2 c) a + 1 * (x a).val = c.val % 2
  have h0 : k0_off2 c a = c.val % 2 := by have := congrFun (k0_off2_eq c) a; fin_cases a; exact this
  omega

theorem whole_pts (c : Dev nD) (b : Ref sig .tc) (q : PosShare TreeShare) (f : Buf (Elt F) ((c : Thread nD τ).loc b)) :
    (((Memref.whole b).view.loc (c : Thread nD τ) ↦[(Memref.whole b).view.set]{q} f) : sProp 𝕄) = ((c : Thread nD τ).loc b ↦{q} f) := by
  simp only [Memref.view_whole, View.set_whole]

/-- What the copy of the permutation delivers: it in scalar memory, and the argument back. -/
def permDone (c : Dev nD) : sProp 𝕄 :=
  iprop(((c : Thread nD τ).loc cc0_scratch3 ↦{fullShare} (m ((c : Thread nD τ).loc main_arg1) : S2.Idx → BitVec 32))
    ∗ ((c : Thread nD τ).loc main_arg1 ↦{fullShare} m ((c : Thread nD τ).loc main_arg1)))

theorem perm_wp (c : Dev nD) {k : PUnit → KProg F} {Q : PUnit → sProp 𝕄} {h₁ h₂ h₃} :
    iprop(semVal ((c : Thread nD τ), .dma piS) 0 ∗ some_ c tabM ∗ ((c : Thread nD τ).loc main_arg1 ↦{fullShare} m ((c : Thread nD τ).loc main_arg1))
      ∗ (Transfers.Flight EC (c : Thread nD τ) (.dma piS) () NP (permDone m c) -∗ WP c (k ⟨⟩) Q))
      ⊢ WP c (.op (.enqueueDma piM (.here tabM) (.dma piS) h₁ h₂ h₃) k) Q := by
  unfold some_
  iintro ⟨Hv, ⟨%fd, Hd⟩, Hs, Hk⟩
  ihave Hs := (Entails.of_eq (whole_pts c main_arg1 fullShare (m ((c : Thread nD τ).loc main_arg1))).symm) $$ Hs
  iapply (Transfers.wp_dmaLocal EC 𝒱₀ (c : Thread nD τ) none (src := piM) (dst := tabM) () NP rfl NP_pos subset_rfl) $$ [Hv Hd Hs]
  · isplitl [Hs]; · iexact Hs
    isplitl [Hd]; · iexact Hd
    iexact Hv
  iintro Hf
  iapply Hk
  iapply (Transfers.Flight_mono EC (c : Thread nD τ) ?_) $$ Hf
  have hw : tabM.view.write (Elt F) fd (piM.view.read (Elt F) (m ((c : Thread nD τ).loc main_arg1))) Finset.univ = (m ((c : Thread nD τ).loc main_arg1) : S2.Idx → BitVec 32) := by
    have h := View.read_write_univ (v := tabM.view) (Val := Elt F) fd (piM.view.read (Elt F) (m ((c : Thread nD τ).loc main_arg1)))
    exact h
  rw [hw]
  unfold permDone
  exact BI.sep_mono (Entails.of_eq (whole_pts c cc0_scratch3 fullShare _)) (Entails.of_eq (whole_pts c main_arg1 fullShare _))

/-- The load of the permutation's word. -/
theorem word_wp (c : Dev nD) {hl} {x} {k : BitVec 32 → KProg F} {Q : PUnit → sProp 𝕄} :
    iprop(((c : Thread nD τ).loc cc0_scratch3 ↦{fullShare} (m ((c : Thread nD τ).loc main_arg1) : S2.Idx → BitVec 32))
      ∗ (((c : Thread nD τ).loc cc0_scratch3 ↦{fullShare} (m ((c : Thread nD τ).loc main_arg1) : S2.Idx → BitVec 32)) -∗ WP c (k (permWord m c)) Q))
      ⊢ WP c (smemLoadElt tabM (Rect.unit (s := S2) (k0_off2 c) S1.size (k0_off2_inb c)) hl x k) Q := by
  have h := wp_smemLoadElt (defs := defs₀ (F := F)) 𝒱₀ (c : Thread nD τ) none (Γ := .empty) Set.univ (Q := Q) (m := tabM)
    (r := Rect.unit (s := S2) (k0_off2 c) S1.size (k0_off2_inb c)) (hw := hl) (x := x) (k := k) (S := Finset.univ) (q := fullShare)
    (f := (m ((c : Thread nD τ).loc main_arg1) : S2.Idx → BitVec 32)) (Finset.subset_univ _)
  rw [word_eq m c x] at h
  iintro ⟨H, Hk⟩
  iapply h $$ H
  iexact Hk

/-- A device's landing buffer handed to its partner along `y` when the blocks move, kept otherwise; -/
theorem give_landing (c : Dev nD) : landing (F := F) c ⊢ iprop(barPay σ (sy c) true ∗ (if σ then iprop(emp) else landing c)) := by
  unfold barPay
  cases σ
  · simp only [Bool.false_eq_true, if_true, if_false]
    iintro H; isplitr; · iempintro
    iexact H
  · simp only [if_true, sy_sy]
    iintro H; isplitl; · iexact H
    iempintro
/-- and what the handshake leaves is the landing buffer of the device exchanged with. -/
theorem take_landing (c : Dev nD) : iprop(barPay σ c true ∗ (if σ then iprop(emp) else landing (F := F) c)) ⊢ landing (dst σ c) := by
  unfold barPay dst
  cases σ
  · simp only [Bool.false_eq_true, if_true, if_false]
    iintro ⟨-, H⟩; iexact H
  · simp only [if_true]
    iintro ⟨H, -⟩; iexact H
theorem give_out (c : Dev nD) : (each fun j => some_ (F := F) c (oC (sx c) j)) ⊢ barPay σ (sx c) false := by
  unfold barPay outLent; rw [sx_sx]; exact BI.Entails.refl _
theorem take_out (c : Dev nD) : barPay (F := F) σ c false ⊢ each fun j => some_ (sx c) (oC c j) := BI.Entails.refl _

/-! The barrier cell's round at its semaphore written out. -/

theorem mem_reg (c : Dev nD) (d : Bool) : d ∈ (Rd σ m).duties ((c : Thread nD τ), SemLoc.reg barS) 0 :=
  (duties_bar σ m c).symm ▸ Finset.mem_univ d
theorem pay_reg (c : Dev nD) (d : Bool) : barPay σ c d ⊢ (Rd σ m).payload ((c : Thread nD τ), SemLoc.reg barS) 0 d :=
  Entails.of_eq (payload_bar σ m c d).symm
theorem rest_reg (c : Dev nD) : bigSep ((Rd σ m).duties ((c : Thread nD τ), SemLoc.reg barS) 0 \ ∅) (fun d => (Rd σ m).payload ((c : Thread nD τ), SemLoc.reg barS) 0 d)
    ⊢ iprop(barPay σ c false ∗ barPay σ c true) := Entails.of_eq (rest_bar σ m c)

/-- Device `c`'s run, when entry `c % 2` of its permutation names `dst c`'s column. -/
theorem loop_wp (hpi : ∀ c, permWord m c = BitVec.ofNat 32 ((dst σ c).val % 2)) (c : Dev nD) (Q : PUnit → sProp 𝕄) :
    iprop(bodyPre σ m K c ∗ (bodyPost σ m c -∗ Q ⟨⟩)) ⊢ WP c (loop c) Q := by
  unfold loop bodyPre localSems scratch inputs outAny payToks posns credits
  simp only [dev1_eq c, dev2_eq c, dev11_eq c]
  iintro ⟨⟨#HR, #Hlev, ⟨%W, HO⟩, ⟨Hv0, Hv1, Hvp, Hcp⟩, ⟨Hs0, Hs1, Hw, Hy, Htab⟩, ⟨Hx, Hpi⟩, ⟨Ho, Ho'⟩,
    ⟨Htby, Htbx, Ht0, Ht1, Ht2, Ht3⟩, ⟨Hab, Ha0, Ha1, Ha2, Ha3⟩, ⟨Hcb, Hcy, Hcx⟩⟩, HQ⟩
  -- the permutation to scalar memory, the first two chunks to the staging slots
  iapply (perm_wp m c)
  isplitl [Hvp]; · iexact Hvp
  isplitl [Htab]; · iexact Htab
  isplitl [Hpi]; · iexact Hpi
  iintro Hpf
  ihave Hx := (pointsTo_share (PosShare.mem_left_op_right fullShare)).1 $$ Hx
  icases Hx with ⟨Hxl, Hxr⟩
  iapply (stage_wp m c 0)
  isplitl [Hv0 Hs0 Hxl]
  · unfold slotIdle
    isplitl [Hv0]; · iexact Hv0
    isplitl [Hs0]; · iexact Hs0
    iexact Hxl
  iintro Hs0
  iapply (stage_wp m c 1)
  isplitl [Hv1 Hs1 Hxr]
  · unfold slotIdle
    isplitl [Hv1]; · iexact Hv1
    isplitl [Hs1]; · iexact Hs1
    iexact Hxr
  iintro Hs1
  -- the handshake
  ihave Hy := (show (each fun j => some_ c (yC j)) ⊢ _ from give_landing σ c) $$ Hy
  icases Hy with ⟨Hyg, Hyk⟩
  unfold O₀
  iapply (Rounds.wp_signal 𝒱₀ ER (Rd σ m) (c : Thread nD τ) none (dst := (sy c : Thread nD τ)) (κ := K (sy c, .inl ()))
      (d := true) (mem_reg σ m (sy c) true) ((amount_bar σ m (sy c) true).trans (by decide)) () (Oy σ c 0 + Ox c 0 + tallyAt (barC (sx c)) () 1) rfl)
    $$ [HO Htby Hyg]
  · isplitr; · iapply (inv_at σ m K (sy c) (.inl ())); iexact HR
    isplitl [HO]; · iexact HO
    isplitl [Htby]; · iexact Htby
    isplitl [Hyg]; · iapply (pay_reg σ m (sy c) true); iexact Hyg
    iapply (reached_at σ m K (sy c) (.inl ())); iexact HR
  iintro HO
  iapply (Rounds.wp_signal 𝒱₀ ER (Rd σ m) (c : Thread nD τ) none (dst := (sx c : Thread nD τ)) (κ := K (sx c, .inl ()))
      (d := false) (mem_reg σ m (sx c) false) ((amount_bar σ m (sx c) false).trans (by decide)) () (Oy σ c 0 + Ox c 0) rfl)
    $$ [HO Htbx Ho']
  · isplitr; · iapply (inv_at σ m K (sx c) (.inl ())); iexact HR
    isplitl [HO]; · iexact HO
    isplitl [Htbx]; · iexact Htbx
    isplitl [Ho']; · iapply (pay_reg σ m (sx c) false); iapply (give_out σ c); iexact Ho'
    iapply (reached_at σ m K (sx c) (.inl ())); iexact HR
  iintro HO
  iapply (Rounds.wp_wait_rest_token 𝒱₀ ER (Rd σ m) (c : Thread nD τ) none (κ := K (c, .inl ()))
      (wpE_semWait_eq 𝒱₀ (c : Thread nD τ) none Set.univ) (Set.mem_univ _) () (O := Oy σ c 0 + Ox c 0) (W := W) (R := 0) (m := 0) (T := ∅)
      (by rw [show Rounds.Schedule.expect (Rd σ m) ((c : Thread nD τ), SemLoc.reg barS) 0 = 2 from expect_bar σ m c])) $$ [Hcb HO Hab]
  · isplitr; · iapply (inv_at σ m K c (.inl ())); iexact HR
    isplitl [Hcb]; · iexact Hcb
    isplitl [HO]; · iexact HO
    isplitr
    · iapply (mayWait c (csem (.inl ())) (lv_bar c).le (above_add (above_Oy σ (by decide) c 0) (above_Ox (by decide) c 0))); iexact Hlev
    iexact Hab
  iintro ⟨HO, Hab, -, Hpay⟩
  ihave Hp := (rest_reg σ m c) $$ Hpay
  icases Hp with ⟨Hox, Hyg⟩
  ihave Hox := (take_out σ c) $$ Hox
  ihave Hyd := (take_landing σ c) $$ [Hyg Hyk]
  · isplitl [Hyg]; · iexact Hyg
    iexact Hyk
  -- the permutation's word
  iapply (Transfers.wp_waitLocalO EC 𝒱₀ (c : Thread nD τ) none () (N := NP) rfl (O := Oy σ c 0 + Ox c 0) (W := _)) $$ [Hpf HO]
  · isplitl [Hpf]; · iexact Hpf
    isplitl [HO]; · iexact HO
    iapply (mayWait c (.dma piS) (lv_local c (2 : Fin 43) (by decide)) (above_add (above_Oy σ (by decide) c 0) (above_Ox (by decide) c 0))); iexact Hlev
  iintro ⟨HD, Hvp, HO⟩
  unfold permDone
  icases HD with ⟨Htab, Hpi⟩
  iapply (word_wp m c)
  isplitl [Htab]; · iexact Htab
  iintro Htab
  have hchk : k0_chk1 c (permWord m c) := (hpi c).symm ▸ chk_of σ c
  iapply (wp_assume 𝒱₀ (c : Thread nD τ) none Set.univ hchk)
  simp only [dev3_eq σ c (hpi c)]
  -- the loops
  iapply (loops_wp σ m K c Q)
  isplitl [Hs0 Hs1 HO Hw Hyd Ho Hox Hcp Ht0 Ht1 Ht2 Ht3 Ha0 Ha1 Ha2 Ha3 Hcy Hcx]
  · unfold loopsPre
    isplitr; · iexact HR
    isplitr; · iexact Hlev
    isplitl [Hs0]; · iexact Hs0
    isplitl [Hs1]; · iexact Hs1
    isplitl [HO]; · iexists _; iexact HO
    isplitl [Hw]; · iexact Hw
    isplitl [Hyd]; · unfold landing; iexact Hyd
    isplitl [Ho]; · iexact Ho
    isplitl [Hox]; · iexact Hox
    isplitl [Hcp]; · iexact Hcp
    isplitl [Ht0 Ht1 Ht2 Ht3]
    · isplitl [Ht0]; · iexact Ht0
      isplitl [Ht1]; · iexact Ht1
      isplitl [Ht2]; · iexact Ht2
      iexact Ht3
    isplitl [Ha0 Ha1 Ha2 Ha3]
    · isplitl [Ha0]; · iexact Ha0
      isplitl [Ha1]; · iexact Ha1
      isplitl [Ha2]; · iexact Ha2
      iexact Ha3
    isplitl [Hcy]; · iexact Hcy
    iexact Hcx
  unfold loopsPost
  iintro ⟨HO, Hs0, Hs1, Hw, Hy, Ho, Hcp, Ha0, Ha1, Ha2, Ha3⟩
  -- the cells close
  imod (close_all σ m K c) $$ [Hab Ha0 Ha1 Ha2 Ha3] with Hz
  · isplitr; · iexact HR
    unfold posns
    isplitl [Hab]; · iexact Hab
    isplitl [Ha0]; · iexact Ha0
    isplitl [Ha1]; · iexact Ha1
    isplitl [Ha2]; · iexact Ha2
    iexact Ha3
  imodintro
  iapply HQ
  unfold bodyPost localSems scratch inputs slotIdle
  icases Hs0 with ⟨Hv0, Hs0, Hxl⟩
  icases Hs1 with ⟨Hv1, Hs1, Hxr⟩
  isplitl [HO]; · iexact HO
  isplitl [Hv0 Hv1 Hvp Hcp]
  · isplitl [Hv0]; · iexact Hv0
    isplitl [Hv1]; · iexact Hv1
    isplitl [Hvp]; · iexact Hvp
    iexact Hcp
  isplitl [Hz]; · iexact Hz
  isplitl [Hs0 Hs1 Hw Hy Htab]
  · isplitl [Hs0]; · iexact Hs0
    isplitl [Hs1]; · iexact Hs1
    isplitl [Hw]; · iexact Hw
    isplitl [Hy]; · iexact Hy
    unfold some_
    iexists (m ((c : Thread nD τ).loc main_arg1) : S2.Idx → BitVec 32)
    iapply (Entails.of_eq (whole_pts c cc0_scratch3 fullShare _).symm)
    iexact Htab
  isplitl [Hxl Hxr Hpi]
  · isplitl [Hxl Hxr]
    · iapply (pointsTo_share (PosShare.mem_left_op_right fullShare)).2
      isplitl [Hxl]; · iexact Hxl
      iexact Hxr
    iexact Hpi
  iexact Ho

end Cert.SwapProof

end
-- ==== Proof.Split.lean ====
/-
# `Split`: the buffers in the pieces the kernel handles

The scratch buffers are their chunks and slots, the result its sixteen chunks; at the end the chunks of the result are the whole
result at `outVal`, row by row the casts of the operand rows the exchange brings.
-/
module

public import proofs.«01_k».proof.Proof.Body
public import Idealize.ShloMosaic.Lib.Ring
public import Idealize.ShloMosaic.Lib.Pipeline.TableIdle
public import Idealize.ShloMosaic.Lib.ViewIndex
public import Idealize.ShloMosaic.Lib.Pipeline.Value

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (σ : Bool) (m : (ℓ : Loc nD τ sig) → Buf (Elt F) ℓ)

/-! ## Element sets -/

theorem set_wC (j : Fin 8) : (wC j).view.set = (rW j).set := by simp only [Memref.view_slice, Memref.view_whole, View.set_slice_whole]
theorem set_yC (j : Fin 8) : (yC j).view.set = (rW j).set := by simp only [Memref.view_slice, Memref.view_whole, View.set_slice_whole]
theorem set_sC (s : Fin 2) : (sC s).view.set = (rS s).set := by
  show ((stM.slice (rS s) (fun _ => rfl)).view.reshape _ _).set = _
  rw [View.set_reshape]; simp only [Memref.view_slice, Memref.view_whole, View.set_slice_whole]
theorem set_oC (d : Dev nD) (j : Fin 8) : (oC d j).view.set = (rX d j).set := by
  show ((outM.slice (rX d j) (fun _ => rfl)).view.reshape _ _).set = _
  rw [View.set_reshape]; simp only [Memref.view_slice, Memref.view_whole, View.set_slice_whole]

theorem off_rX (d : Dev nD) (j : Fin 8) : k0_off3 d (BitVec.ofNat 32 (64 * j.val)) = ![0, 512 * (d.val / 2) + 64 * j.val, 0] :=
  k0_off3_eq d j

theorem mem_oC (d : Dev nD) (j : Fin 8) (i : S1x1024x1024.Idx) :
    i ∈ (oC d j).view.set ↔ 512 * (d.val / 2) + 64 * j.val ≤ (i 1).val ∧ (i 1).val < 512 * (d.val / 2) + 64 * j.val + 64 := by
  rw [set_oC, Rect.mem_set_unit, off_rX]
  constructor
  · intro h; exact h 1
  · intro h a
    have h0 : (i 0).val < 1 := (i 0).isLt
    have h2 : (i 2).val < 1024 := (i 2).isLt
    fin_cases a
    · exact ⟨Nat.zero_le _, by show (i 0).val < 0 + 1; omega⟩
    · exact h
    · exact ⟨Nat.zero_le _, by show (i 2).val < 0 + 1024; omega⟩

/-- The sixteen chunks of `c`'s result: those of its own half, then those of the other. -/
def outI (c : Dev nD) : (Fin 8 ⊕ Fin 8) → Finset S1x1024x1024.Idx
  | .inl j => (oC c j).view.set
  | .inr j => (oC (sx c) j).view.set

theorem half_lt (c : Dev nD) : c.val / 2 < 2 := by have : c.val < 4 := c.isLt; omega

theorem mem_outI (c : Dev nD) (b : Fin 8 ⊕ Fin 8) (i : S1x1024x1024.Idx) :
    i ∈ outI c b ↔ (i 1).val / 64 = (match b with | .inl j => 8 * (c.val / 2) + j.val | .inr j => 8 * (1 - c.val / 2) + j.val) := by
  rcases b with j | j
  · show i ∈ (oC c j).view.set ↔ _
    rw [mem_oC]; show _ ↔ (i 1).val / 64 = 8 * (c.val / 2) + j.val; omega
  · show i ∈ (oC (sx c) j).view.set ↔ _
    rw [mem_oC, sx_half]; show _ ↔ (i 1).val / 64 = 8 * (1 - c.val / 2) + j.val; have := half_lt c; omega

theorem outI_disjoint (c : Dev nD) : ∀ b b', b ≠ b' → Disjoint (outI c b) (outI c b') := fun b b' h => by
  rw [Finset.disjoint_left]
  intro i hi hi'
  rw [mem_outI] at hi hi'
  have hc := half_lt c
  apply h
  rcases b with j | j <;> rcases b' with j' | j' <;> simp only [] at hi hi' <;> first
    | (congr 1; exact Fin.ext (by omega))
    | (exfalso; have := j.isLt; have := j'.isLt; omega)

theorem outI_cover (c : Dev nD) : Finset.univ.biUnion (outI c) = Finset.univ := by
  ext i
  simp only [Finset.mem_biUnion, Finset.mem_univ, true_and, iff_true]
  have hi : (i 1).val < 1024 := (i 1).isLt
  have hc := half_lt c
  by_cases h : (i 1).val / 512 = c.val / 2
  · exact ⟨.inl ⟨(i 1).val / 64 - 8 * (c.val / 2), by omega⟩, (mem_outI c _ i).mpr (by simp only []; omega)⟩
  · exact ⟨.inr ⟨(i 1).val / 64 - 8 * (1 - c.val / 2), by omega⟩, (mem_outI c _ i).mpr (by simp only []; omega)⟩

/-! ## The scratch buffers -/

theorem some_intro {sp : Space} {sh : Shape} {e : EltTy} (c : Dev nD) (M : Memref sig .tc sp sh e) (S : Finset M.view.ty.Idx) (hS : M.view.set = S)
    (f : Buf (Elt F) (M.view.loc (c : Thread nD τ))) :
    (M.view.loc (c : Thread nD τ) ↦[S]{fullShare} f : sProp 𝕄) ⊢ some_ c M := by
  subst hS; unfold some_; iintro H; iexists f; iexact H
theorem some_elim {sp : Space} {sh : Shape} {e : EltTy} (c : Dev nD) (M : Memref sig .tc sp sh e) (S : Finset M.view.ty.Idx) (hS : M.view.set = S) :
    (some_ c M : sProp 𝕄) ⊢ iprop(∃ f, M.view.loc (c : Thread nD τ) ↦[S]{fullShare} f) := by
  subst hS; unfold some_; exact BI.Entails.refl _

theorem rW_disjoint (b b' : Fin 8) (h : b ≠ b') : Disjoint (rW b).set (rW b').set :=
  lead_disjoint (s := S512x1024) (0 : Fin 2) 64 (fun j : Fin 8 => ![64 * j.val, 0]) S64x1024.size inbW (fun _ => rfl) rfl b b' h
theorem rW_cover : Finset.univ.biUnion (fun j : Fin 8 => (rW j).set) = Finset.univ :=
  lead_cover (s := S512x1024) (0 : Fin 2) 64 (fun j : Fin 8 => ![64 * j.val, 0]) S64x1024.size inbW (fun _ => rfl)
    (fun j a ha => by fin_cases a <;> first | exact absurd rfl ha | rfl) rfl (fun a ha => by fin_cases a <;> first | exact absurd rfl ha | rfl) rfl
theorem rS_disjoint (b b' : Fin 2) (h : b ≠ b') : Disjoint (rS b).set (rS b').set :=
  lead_disjoint (s := S2x64x1024) (0 : Fin 3) 1 (fun j : Fin 2 => ![j.val, 0, 0]) S1x64x1024.size inbS (fun b => (Nat.one_mul _).symm) rfl b b' h
theorem rS_cover : Finset.univ.biUnion (fun j : Fin 2 => (rS j).set) = Finset.univ :=
  lead_cover (s := S2x64x1024) (0 : Fin 3) 1 (fun j : Fin 2 => ![j.val, 0, 0]) S1x64x1024.size inbS (fun b => (Nat.one_mul _).symm)
    (fun j a ha => by fin_cases a <;> first | exact absurd rfl ha | rfl) rfl (fun a ha => by fin_cases a <;> first | exact absurd rfl ha | rfl) rfl

theorem split_w (c : Dev nD) :
    iprop(∃ f, ((c : Thread nD τ).loc cc0_scratch1) ↦{fullShare} f) ⊢ (each fun j => some_ c (wC j) : sProp 𝕄) := by
  iintro ⟨%f, H⟩
  ihave H' := (Entails.of_eq (pointsTo_blocks (fun j : Fin 8 => (rW j).set) rW_disjoint rW_cover f)) $$ H
  have h : bigSep Finset.univ (fun j : Fin 8 => ((wC j).view.loc (c : Thread nD τ) ↦[(rW j).set]{fullShare} f : sProp 𝕄))
      ⊢ bigSep Finset.univ fun j : Fin 8 => some_ c (wC j) := bigSep_mono fun j _ => some_intro c (wC j) _ (set_wC j) f
  iapply h
  iexact H'
theorem join_w (c : Dev nD) :
    (each fun j => some_ c (wC j) : sProp 𝕄) ⊢ iprop(∃ f, ((c : Thread nD τ).loc cc0_scratch1) ↦{fullShare} f) := by
  iintro H
  iapply (pointsTo_blocks_join_exists (ℓ := (c : Thread nD τ).loc cc0_scratch1) (fun j : Fin 8 => (rW j).set) rW_disjoint rW_cover (fun _ => Classical.arbitrary _))
  have h : (bigSep Finset.univ fun j : Fin 8 => (some_ c (wC j) : sProp 𝕄))
      ⊢ bigSep Finset.univ fun j : Fin 8 => iprop(∃ f, (wC j).view.loc (c : Thread nD τ) ↦[(rW j).set]{fullShare} f) :=
    bigSep_mono fun j _ => some_elim c (wC j) _ (set_wC j)
  iapply h
  iexact H
theorem split_y (c : Dev nD) :
    iprop(∃ f, ((c : Thread nD τ).loc cc0_scratch2) ↦{fullShare} f) ⊢ (each fun j => some_ c (yC j) : sProp 𝕄) := by
  iintro ⟨%f, H⟩
  ihave H' := (Entails.of_eq (pointsTo_blocks (fun j : Fin 8 => (rW j).set) rW_disjoint rW_cover f)) $$ H
  have h : bigSep Finset.univ (fun j : Fin 8 => ((yC j).view.loc (c : Thread nD τ) ↦[(rW j).set]{fullShare} f : sProp 𝕄))
      ⊢ bigSep Finset.univ fun j : Fin 8 => some_ c (yC j) := bigSep_mono fun j _ => some_intro c (yC j) _ (set_yC j) f
  iapply h
  iexact H'
theorem join_y (c : Dev nD) :
    (each fun j => some_ c (yC j) : sProp 𝕄) ⊢ iprop(∃ f, ((c : Thread nD τ).loc cc0_scratch2) ↦{fullShare} f) := by
  iintro H
  iapply (pointsTo_blocks_join_exists (ℓ := (c : Thread nD τ).loc cc0_scratch2) (fun j : Fin 8 => (rW j).set) rW_disjoint rW_cover (fun _ => Classical.arbitrary _))
  have h : (bigSep Finset.univ fun j : Fin 8 => (some_ c (yC j) : sProp 𝕄))
      ⊢ bigSep Finset.univ fun j : Fin 8 => iprop(∃ f, (yC j).view.loc (c : Thread nD τ) ↦[(rW j).set]{fullShare} f) :=
    bigSep_mono fun j _ => some_elim c (yC j) _ (set_yC j)
  iapply h
  iexact H

theorem bigSep_fin2 (Φ : Fin 2 → sProp 𝕄) : bigSep Finset.univ Φ = iprop(Φ 0 ∗ Φ 1) := bigSep_univ_eq_bigSepL [0, 1] (by decide) (by decide) Φ

theorem split_s (c : Dev nD) :
    iprop(∃ f, ((c : Thread nD τ).loc cc0_scratch0) ↦{fullShare} f) ⊢ (iprop(some_ c (sC 0) ∗ some_ c (sC 1)) : sProp 𝕄) := by
  rw [← bigSep_fin2 fun s => some_ c (sC s)]
  iintro ⟨%f, H⟩
  ihave H' := (Entails.of_eq (pointsTo_blocks (fun j : Fin 2 => (rS j).set) rS_disjoint rS_cover f)) $$ H
  have h : bigSep Finset.univ (fun j : Fin 2 => ((sC j).view.loc (c : Thread nD τ) ↦[(rS j).set]{fullShare} f : sProp 𝕄))
      ⊢ bigSep Finset.univ fun j : Fin 2 => some_ c (sC j) := bigSep_mono fun j _ => some_intro c (sC j) _ (set_sC j) f
  iapply h
  iexact H'
theorem join_s (c : Dev nD) :
    (iprop(some_ c (sC 0) ∗ some_ c (sC 1)) : sProp 𝕄) ⊢ iprop(∃ f, ((c : Thread nD τ).loc cc0_scratch0) ↦{fullShare} f) := by
  rw [← bigSep_fin2 fun s => some_ c (sC s)]
  iintro H
  iapply (pointsTo_blocks_join_exists (ℓ := (c : Thread nD τ).loc cc0_scratch0) (fun j : Fin 2 => (rS j).set) rS_disjoint rS_cover (fun _ => Classical.arbitrary _))
  have h : (bigSep Finset.univ fun j : Fin 2 => (some_ c (sC j) : sProp 𝕄))
      ⊢ bigSep Finset.univ fun j : Fin 2 => iprop(∃ f, (sC j).view.loc (c : Thread nD τ) ↦[(rS j).set]{fullShare} f) :=
    bigSep_mono fun j _ => some_elim c (sC j) _ (set_sC j)
  iapply h
  iexact H

/-- The scratch buffers, whole, are the pieces the kernel handles; -/
theorem scratch_split (c : Dev nD) : (Pipeline.scopedRest cfg0.spec c : sProp 𝕄) ⊢ scratch c := by
  rw [scopedRest0_eq]; unfold scratch
  iintro ⟨H0, H1, H2, ⟨%f, H3⟩⟩
  ihave Hs := (split_s (F := F) c) $$ H0
  icases Hs with ⟨Ha, Hb⟩
  ihave Hw := (split_w (F := F) c) $$ H1
  ihave Hy := (split_y (F := F) c) $$ H2
  isplitl [Ha]; · iexact Ha
  isplitl [Hb]; · iexact Hb
  isplitl [Hw]; · iexact Hw
  isplitl [Hy]; · iexact Hy
  unfold some_; iexists f
  ihave H' := (Entails.of_eq (whole_pts c cc0_scratch3 fullShare f).symm) $$ H3
  iexact H'
/-- and back. -/
theorem scratch_join (c : Dev nD) : (scratch c : sProp 𝕄) ⊢ Pipeline.scopedRest cfg0.spec c := by
  rw [scopedRest0_eq]; unfold scratch
  iintro ⟨Ha, Hb, Hw, Hy, Ht⟩
  isplitl [Ha Hb]
  · iapply (join_s (F := F) c); isplitl [Ha] <;> iassumption
  isplitl [Hw]; · iapply (join_w (F := F) c); iexact Hw
  isplitl [Hy]; · iapply (join_y (F := F) c); iexact Hy
  unfold some_; icases Ht with ⟨%f, Ht⟩; iexists f
  ihave H' := (Entails.of_eq (whole_pts c cc0_scratch3 fullShare f)) $$ Ht
  iexact H'

/-! ## The result -/

theorem out_split (c : Dev nD) (f : Buf (Elt F) ((c : Thread nD τ).loc main_v1)) :
    ((c : Thread nD τ).loc main_v1 ↦{fullShare} f : sProp 𝕄) ⊢ outAny c := by
  rw [pointsTo_blocks (outI c) (outI_disjoint c) (outI_cover c) f, bigSep_univ_sum]
  unfold outAny
  refine BI.sep_mono (bigSep_mono fun j _ => ?_) (bigSep_mono fun j _ => ?_)
  · exact some_intro c (oC c j) _ rfl f
  · exact some_intro c (oC (sx c) j) _ rfl f

/-- The device whose operand the rows `r` of `c`'s result come from. -/
def srcOf (c : Dev nD) (r : ℕ) : Dev nD := if r / 512 = c.val / 2 then dst σ c else dst σ (sx c)
/-- What the whole program leaves in `c`'s result. -/
def outVal (c : Dev nD) : S1x1024x1024.Idx → Elt F .bf16 := fun i =>
  FloatOps.truncf .bf16 bitsLt_bf16_f32 ((m ((srcOf σ c (i 1).val : Thread nD τ).loc main_arg0) : S1x1024x1024.Idx → F .f32) i)

theorem dst_half (c : Dev nD) : (dst σ c).val / 2 = c.val / 2 := by revert c σ; decide

theorem unit_emb_congr {s : Shape} {off off' size : Fin s.rank → ℕ} (h : off = off') (hi : ∀ a, off a + size a ≤ s.size a)
    (hi' : ∀ a, off' a + size a ≤ s.size a) (y : (⟨s.rank, size⟩ : Shape).Idx) :
    (Rect.unit (s := s) off size hi).emb y = (Rect.unit (s := s) off' size hi').emb y := by subst h; rfl

theorem emb_dst (d : Dev nD) (j : Fin 8) (y : S1x64x1024.Idx) : (rX (dst σ d) j).emb y = (rX d j).emb y :=
  unit_emb_congr (s := S1x1024x1024) (off := k0_off3 (dst σ d) (BitVec.ofNat 32 (64 * j.val))) (off' := k0_off3 d (BitVec.ofNat 32 (64 * j.val)))
    (by rw [off_rX, off_rX, dst_half]) (inbX _ j) (inbX d j) y

/-- A chunk, element by element: the casts of the operand rows of the half it is in. -/
theorem chunk_apply (d : Dev nD) (j : Fin 8) (x : S64x1024.Idx) :
    chunk m (dst σ d) j x = FloatOps.truncf .bf16 bitsLt_bf16_f32
      ((m ((dst σ d : Thread nD τ).loc main_arg0) : S1x1024x1024.Idx → F .f32) ((oC d j).view.emb x)) := by
  unfold chunk k0_pay1
  rw [shapeCast_self]
  exact congrArg (fun i => FloatOps.truncf .bf16 bitsLt_bf16_f32 ((m ((dst σ d : Thread nD τ).loc main_arg0) : S1x1024x1024.Idx → F .f32) i))
    (emb_dst σ d j _)

theorem read_outVal (c d : Dev nD) (h : d = c ∨ d = sx c) (j : Fin 8) :
    (oC d j).view.read (Elt F) (outVal σ m c) = chunk m (dst σ d) j := by
  funext x
  have hmem := (mem_oC d j _).mp ((oC d j).view.emb_mem_set x)
  have hs : srcOf σ c (((oC d j).view.emb x : S1x1024x1024.Idx) 1).val = dst σ d := by
    have hc := half_lt c; have hj := j.isLt
    unfold srcOf
    rcases h with rfl | rfl
    · rw [if_pos (by omega)]
    · rw [sx_half] at hmem; rw [if_neg (by omega)]
  have h1 : (oC d j).view.read (Elt F) (outVal σ m c) x = outVal σ m c ((oC d j).view.emb x) := rfl
  rw [h1, chunk_apply]; unfold outVal; rw [hs]

theorem out_join (c : Dev nD) : outDone σ m c ⊢ ((c : Thread nD τ).loc main_v1 ↦{fullShare} (outVal σ m c : Buf (Elt F) ((c : Thread nD τ).loc main_v1)) : sProp 𝕄) := by
  rw [pointsTo_blocks (outI c) (outI_disjoint c) (outI_cover c), bigSep_univ_sum]
  unfold outDone
  have key : ∀ d : Dev nD, (d = c ∨ d = sx c) → ∀ j : Fin 8,
      (owns (c : Thread nD τ) (oC d j) fullShare (chunk m (dst σ d) j) : sProp 𝕄)
        ⊢ ((oC d j).view.loc (c : Thread nD τ) ↦[(oC d j).view.set]{fullShare} outVal σ m c) := by
    intro d hd j
    unfold owns
    iintro ⟨%f, %hf, H⟩
    ihave H' := (Entails.of_eq (pointsTo_congr fun i hi => by
      obtain ⟨x, -, rfl⟩ := Finset.mem_map.mp hi
      exact View.eq_of_read_eq (congrFun (hf.trans (read_outVal σ m c d hd j).symm) x))) $$ H
    iexact H'
  exact BI.sep_mono (bigSep_mono fun j _ => key c (.inl rfl) j) (bigSep_mono fun j _ => key (sx c) (.inr rfl) j)

end Cert.SwapProof

end
-- ==== Proof.Launch.lean ====
/-
# `Launch`: the four devices together

From a memory with zero counters to the run of the whole program: the cells' invariants and the duty tokens dealt to the devices that
pay them, the credits of what is owed at launch, and each device's body from `loop_wp`. `run_main` is the outcome: every
counter at zero, the arguments unchanged, and each device's result at `outVal`.
-/
module

public import proofs.«01_k».proof.Proof.Split
public import Idealize.ShloMosaic.Lib.Quiescent
public import Idealize.ShloMosaic.Lib.Pipeline.CollectiveSegs

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Bool) (m : (ℓ : Loc nD τ sig) → Buf (Elt F) ℓ)

/-! ## The proof data of the region -/

/-- All a device's body starts from but the record of what it owes; -/
def Φ₀ (c : Dev nD) : sProp 𝕄 :=
  iprop(∃ K, records σ m K ∗ levAts L lv ∗ localSems c ∗ scratch c ∗ inputs m c ∗ outAny c ∗ payToks σ c ∗ posns c 0 ∗ credits c)
/-- and all it ends with but that. -/
def Φ₁ (c : Dev nD) : sProp 𝕄 := iprop(localSems c ∗ cellSems c ∗ scratch c ∗ inputs m c ∗ outDone σ m c)

def dats (_ : Fin 1) (c : Dev nD) : Dat τ (Elt F) Unit ℕ UU ℕ cfg0 c where
  A w := w.elim0
  after w _ := w.elim0
  Φ t := match t with
    | ⟨0, _⟩ => Φ₀ σ m c
    | ⟨_ + 1, _⟩ => Φ₁ σ m c
  q _ := fullShare
  owed t := match t with
    | ⟨0, _⟩ => O₀ σ c
    | ⟨_ + 1, _⟩ => 0

theorem bigSep_fin0 (Φ : Fin 0 → sProp 𝕄) : bigSep Finset.univ Φ = iprop(emp) := by
  rw [Finset.univ_eq_empty, BI.bigSep_empty]; rfl

variable (hpi : ∀ c, permWord m c = BitVec.ofNat 32 ((dst σ c).val % 2))

include hpi in
theorem body_wp (c : Dev nD) :
    iprop(Φ₀ σ m c ∗ Pipeline.owesWithin c (O₀ σ c) Set.univ ∗ emp)
      ⊢ WP c (.op .deviceId loop) fun _ => iprop(Φ₁ σ m c ∗ Pipeline.owesWithin c 0 Set.univ ∗ emp) := by
  unfold WP; rw [wp_deviceId]
  unfold Φ₀ Φ₁ Pipeline.owesWithin
  iintro ⟨⟨%K, HR, Hlev, Hl, Hs, Hi, Ho, Ht, Hp, Hc⟩, ⟨%W, -, HO⟩, -⟩
  iapply (loop_wp σ m K hpi c _)
  isplitr []
  · unfold bodyPre
    isplitl [HR]; · iexact HR
    isplitl [Hlev]; · iexact Hlev
    isplitl [HO]; · iexists W; iexact HO
    isplitl [Hl]; · iexact Hl
    isplitl [Hs]; · iexact Hs
    isplitl [Hi]; · iexact Hi
    isplitl [Ho]; · iexact Ho
    isplitl [Ht]; · iexact Ht
    isplitl [Hp]; · iexact Hp
    iexact Hc
  · unfold bodyPost
    iintro ⟨⟨%W', HO⟩, H⟩
    isplitl [H]; · iexact H
    isplitl; · iexists W'; isplitr; · ipureintro; exact Set.subset_univ _
               iexact HO
    iempintro

theorem bound_univ (c : Dev nD) (t) : (dats σ m 0 c).bound () t = Set.univ := Set.eq_univ_of_forall fun _ => Or.inl trivial

set_option maxRecDepth 8000 in
include hpi in
/-- The library's body obligation on each device. -/
theorem body_obligation (c : Dev nD) : BodyObligation (dats (F := F) σ m 0 c) (defs₀ (F := F)) 𝒱₀ () Set.univ := fun t => by
  rw [fin_N0 t]
  have h := body_wp σ m hpi c
  rw [← body_eq_loop t0_0] at h
  have e : ∀ Φ : Fin 0 → sProp 𝕄, bigSep Finset.univ Φ = iprop(emp) := bigSep_fin0
  rw [e, e]
  unfold Dat.owesAt
  rw [bound_univ, bound_univ]
  show iprop(Φ₀ σ m c ∗ Pipeline.owesWithin c (O₀ σ c) Set.univ ∗ emp)
    ⊢ wp frame (wpE (defs₀ (F := F)) 𝒱₀ (c : Thread nD τ) none) Set.univ (bodyAt0 t0_0) fun _ => iprop(Φ₁ σ m c ∗ Pipeline.owesWithin c 0 Set.univ ∗ emp)
  exact h

/-! ## The cells and the tokens -/

/-- The kernel's own semaphores: staging, the permutation's, the local copies', and the exchange's. -/
abbrev KS : Type := (Fin 3 ⊕ Fin 8) ⊕ (Fin 4 × Fin 8)
def osem : KS → SemLoc sig
  | .inl (.inl i) => .dma (⟨i.val, by omega⟩ : Fin 43)
  | .inl (.inr j) => .dma (cpS j)
  | .inr kj => csem (.inr kj)

theorem ownSemFacts : Pipeline.OwnSemFacts cfg0.spec osem := by decide

theorem cell_injective : Function.Injective (fun ck : Dev nD × CI => cell ck.1 ck.2) := by
  rintro ⟨c, k⟩ ⟨c', k'⟩ h
  obtain ⟨h1, h2⟩ := cell_inj h
  subst h1; subst h2; rfl
def cells : Finset (GSem nD τ sig) := Finset.univ.map ⟨fun ck : Dev nD × CI => cell ck.1 ck.2, cell_injective⟩

/-- The duties of a device's cells: the barrier's two, and one of each DMA cell. -/
abbrev TI : Type := Bool ⊕ (Fin 4 × Fin 8)
def tokOf (ct : Dev nD × TI) : GSem nD τ sig × ℕ × Bool := match ct.2 with
  | .inl b => (barC ct.1, 0, b)
  | .inr kj => (cell ct.1 (.inr kj), 0, false)
theorem tokOf_injective : Function.Injective (tokOf : Dev nD × TI → GSem nD τ sig × ℕ × Bool) := by
  rintro ⟨c, b | kj⟩ ⟨c', b' | kj'⟩ h
  · obtain ⟨h1, -⟩ := cell_inj (congrArg Prod.fst h)
    have h2 : b = b' := congrArg (fun x => x.2.2) h
    subst h1; subst h2; rfl
  · obtain ⟨-, h2⟩ := cell_inj (k := .inl ()) (k' := .inr kj') (congrArg Prod.fst h); cases h2
  · obtain ⟨-, h2⟩ := cell_inj (k := .inr kj) (k' := .inl ()) (congrArg Prod.fst h); cases h2
  · obtain ⟨h1, h2⟩ := cell_inj (k := .inr kj) (k' := .inr kj') (congrArg Prod.fst h)
    subst h1; cases h2; rfl
def toksAll : Finset (GSem nD τ sig × ℕ × Bool) := Finset.univ.map ⟨tokOf, tokOf_injective⟩

def u₀ : UU :=
  (initOf (Pipeline.cells cfgs cellOf_inj) (Pipeline.launchToks cfgs cellOf_inj), (initOf cells toksAll, 1))

theorem bigSep_unit (Φ : Unit → sProp 𝕄) : bigSep Finset.univ Φ = Φ () := bigSep_univ_eq_bigSepL [()] (by decide) (by decide) Φ
theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ false ∗ Φ true) := bigSep_univ_eq_bigSepL [false, true] (by decide) (by decide) Φ

theorem bigSep_X (Φ : Fin 4 × Fin 8 → sProp 𝕄) :
    bigSep Finset.univ Φ = iprop((each fun j => Φ (0, j)) ∗ (each fun j => Φ (1, j)) ∗ (each fun j => Φ (2, j)) ∗ each fun j => Φ (3, j)) := by
  rw [bigSep_univ_prod, bigSep_fin4]
theorem bigSep_CI (Φ : CI → sProp 𝕄) :
    bigSep Finset.univ Φ = iprop(Φ (.inl ()) ∗ (each fun j => Φ (.inr (0, j))) ∗ (each fun j => Φ (.inr (1, j))) ∗ (each fun j => Φ (.inr (2, j))) ∗ each fun j => Φ (.inr (3, j))) := by
  rw [bigSep_univ_sum, bigSep_unit, bigSep_X]; rfl

/-- The duty tokens of device `c`'s own cells. -/
def toks (c : Dev nD) : sProp 𝕄 :=
  iprop((dutyTok ER (barC c) 0 false ∗ dutyTok ER (barC c) 0 true)
    ∗ (each fun j => dutyTok ER (ysC c j) 0 false) ∗ (each fun j => dutyTok ER (yrC c j) 0 false)
    ∗ (each fun j => dutyTok ER (xsC c j) 0 false) ∗ each fun j => dutyTok ER (xrC c j) 0 false)

/-- What the launch element deals device `c`; -/
def G (c : Dev nD) : sProp 𝕄 :=
  iprop((bigSep Finset.univ fun k : CI => roundState ER (Rd σ m) (cell c k) 0)
    ∗ (bigSep Finset.univ fun k : CI => iprop(atPos ER (cell c k) 0 ∅ 0 ∗ reached ER (cell c k) 0)) ∗ toks c)
/-- and what the global step makes of it. -/
def G' (c : Dev nD) : sProp 𝕄 := iprop(∃ K, records σ m K ∗ localSems c ∗ payToks σ c ∗ posns c 0)

theorem own_cells (a : UB) : (BI.own ((embR : Emb (UB × Counters) 𝕄) (a, 1)) : sProp 𝕄) ⊢ BI.own (ER a) := by
  unfold ER
  iintro H
  ihave H2 := (own_pair_emb embR _ _) $$ H
  icases H2 with ⟨HX, -⟩
  iexact HX

theorem fund_cells : BI.own (ER (initOf cells toksAll)) ⊢ (|==> bigSep Finset.univ (G σ m) : sProp 𝕄) := by
  have hX (Φ : GSem nD τ sig → sProp 𝕄) : bigSep cells Φ = bigSep Finset.univ fun c : Dev nD => bigSep Finset.univ fun k : CI => Φ (cell c k) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_univ_sum, bigSep_bool, bigSep_X]; rfl
  iintro HX
  imod (Rounds.fund ER (Rd σ m) cells toksAll) $$ HX with ⟨Hst, Hr, Hat, Htok⟩
  imodintro
  ihave Hst' := (Entails.of_eq (hX fun g => roundState ER (Rd σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = iprop(((semVal ((c : Thread nD τ), .dma (inS 0)) 0 ∗ semVal ((c : Thread nD τ), .dma (inS 1)) 0 ∗ semVal ((c : Thread nD τ), .dma piS) 0)
      ∗ each fun j => semVal ((c : Thread nD τ), .dma (cpS j)) 0)
      ∗ (each fun j => semVal (ysC c j) 0) ∗ (each fun j => semVal (yrC c j) 0) ∗ (each fun j => semVal (xsC c j) 0) ∗ each fun j => semVal (xrC c j) 0) := by
  unfold Pipeline.ownSems0
  rw [bigSep_univ_sum, bigSep_univ_sum, bigSep_fin3, bigSep_X]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : CI => semVal (cell c k) 0) : sProp 𝕄) := by
  rw [ownSems0_eq, unscopedSems0_eq, bigSep_CI]; unfold localSems
  iintro ⟨⟨⟨⟨H0, H1, H2⟩, Hc⟩, HX⟩, HB⟩
  isplitr [HX HB]
  · isplitl [H0]; · iexact H0
    isplitl [H1]; · iexact H1
    isplitl [H2]; · iexact H2
    iexact Hc
  isplitl [HB]; · iexact HB
  iexact HX

theorem sems0_join (c : Dev nD) :
    (iprop(localSems c ∗ cellSems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]; unfold localSems cellSems
  iintro ⟨⟨H0, H1, H2, Hc⟩, HB, HX⟩
  isplitl [HB]; · iexact HB
  isplitr [HX]
  · isplitr [Hc]
    · isplitl [H0]; · iexact H0
      isplitl [H1]; · iexact H1
      iexact H2
    iexact Hc
  iexact HX

/-! ## The global step -/

theorem core_alloc (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k : CI => iprop(∃ κ : ℕ, cellInv ER (Rd σ m) κ (cell c k)))
          ∗ (bigSep Finset.univ fun k : CI => iprop(atPos ER (cell c k) 0 ∅ 0 ∗ reached ER (cell c k) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hl, Hv⟩
  imod (show iprop((bigSep Finset.univ fun k : CI => semVal (cell c k) 0) ∗ bigSep Finset.univ fun k : CI => roundState ER (Rd σ m) (cell c k) 0)
      ⊢ (|={Set.univ}=> bigSep Finset.univ fun k : CI => iprop(∃ κ : ℕ, cellInv ER (Rd σ m) κ (cell c k)) : sProp 𝕄) from by
        rw [← bigSep_sep']
        exact (bigSep_mono fun k _ => (Rounds.body_intro ER (Rd σ m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The tokens dealt to the devices that pay the duties. -/
theorem toks_deal : (bigSep Finset.univ fun c : Dev nD => (toks c : sProp 𝕄)) ⊢ bigSep Finset.univ fun c : Dev nD => payToks σ c := by
  unfold toks payToks
  simp only [bigSep_sep']
  rw [bigSep_univ_equiv eqvX (fun c : Dev nD => (dutyTok ER (barC c) 0 false : sProp 𝕄)),
    bigSep_univ_equiv eqvY (fun c : Dev nD => (dutyTok ER (barC c) 0 true : sProp 𝕄)),
    bigSep_univ_equiv (eqvD σ) (fun c : Dev nD => (each fun j => dutyTok ER (yrC c j) 0 false : sProp 𝕄)),
    bigSep_univ_equiv eqvX (fun c : Dev nD => (each fun j => dutyTok ER (xrC c j) 0 false : sProp 𝕄))]
  iintro ⟨⟨H1, H2⟩, H3, H4, H5, H6⟩
  isplitl [H2]; · iexact H2
  isplitl [H1]; · iexact H1
  isplitl [H3]; · iexact H3
  isplitl [H4]; · iexact H4
  isplitl [H5]; · iexact H5
  iexact H6

theorem posns_eq (c : Dev nD) : (bigSep Finset.univ fun k : CI => (atPos ER (cell c k) 0 ∅ 0 : sProp 𝕄)) = posns c 0 := by
  rw [bigSep_CI]; rfl

theorem G'_intro (K : Dev nD × CI → ℕ) (c : Dev nD) : iprop(records σ m K ∗ (localSems c ∗ payToks σ c ∗ posns c 0)) ⊢ G' σ m c := by
  unfold G'; iintro H; iexists K; iexact H

theorem regroup :
    (bigSep Finset.univ fun c : Dev nD => iprop((bigSep Finset.univ fun k : CI => iprop(∃ κ : ℕ, cellInv ER (Rd σ m) κ (cell c k)))
          ∗ (bigSep Finset.univ fun k : CI => iprop(atPos ER (cell c k) 0 ∅ 0 ∗ reached ER (cell c k) 0)) ∗ toks c ∗ localSems c) : sProp 𝕄)
      ⊢ bigSep Finset.univ (G' σ m) := by
  rw [bigSep_sep', bigSep_sep', bigSep_sep', ← bigSep_univ_prod (fun ck : Dev nD × CI => iprop(∃ κ : ℕ, cellInv ER (Rd σ m) κ (cell ck.1 ck.2))),
    bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun ck : Dev nD × CI => (reached ER (cell ck.1 ck.2) 0 : sProp 𝕄))]
  iintro ⟨HI, ⟨Hat, #HR⟩, Htok, Hl⟩
  ihave HK := (BI.bigSep_exists_pi Finset.univ (fun (ck : Dev nD × CI) (κ : ℕ) => (cellInv ER (Rd σ m) κ (cell ck.1 ck.2) : sProp 𝕄))) $$ HI
  icases HK with ⟨%K, #HI⟩
  ihave Htk := (toks_deal (F := F) σ) $$ Htok
  iapply (with_each (R := records σ m K) fun c _ => G'_intro σ m K c)
  isplitr
  · unfold records; isplitl; · iexact HI
    iexact HR
  · have hp : (bigSep Finset.univ fun c : Dev nD => bigSep Finset.univ fun k : CI => (atPos ER (cell c k) 0 ∅ 0 : sProp 𝕄))
        ⊢ bigSep Finset.univ fun c : Dev nD => posns c 0 := bigSep_mono fun c _ => Entails.of_eq (posns_eq c)
    ihave Hp := hp $$ Hat
    rw [bigSep_sep', bigSep_sep']
    isplitl [Hl]; · iexact Hl
    isplitl [Htk]; · iexact Htk
    iexact Hp

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => core_alloc σ m c).trans (bigSep_fupd _ _)).trans (BI.fupd_mono (regroup σ m))

/-! ## The launch credit -/

/-- What all devices owe a cell in landings of kind `t`, device `d` to `e d`: a chunk's credit on each cell of that kind, nothing on the others. -/
theorem owed_tail (e : Dev nD ≃ Dev nD) (t : Fin 4) (c : Dev nD) (k : CI) :
    ∑ d : Dev nD, (tail (fun j => tallyAt (cell (e d) (.inr (t, j))) () N) 0) (cell c k) ()
      = match k with | .inl _ => 0 | .inr (t', _) => if t' = t then N else 0 := by
  have hterm : ∀ d : Dev nD, (tail (fun j => (tallyAt (cell (e d) (.inr (t, j))) () N : CellTallies nD τ sig Unit)) 0) (cell c k) ()
      = ∑ j : Fin 8, if c = e d ∧ k = .inr (t, j) then N else 0 := by
    intro d
    unfold tail
    rw [Finset.sum_apply, Finsupp.finset_sum_apply, Finset.filter_true_of_mem fun _ _ => Nat.zero_le _]
    refine Finset.sum_congr rfl fun j _ => ?_
    rw [tallyAt_apply]
    by_cases h : c = e d ∧ k = .inr (t, j)
    · obtain ⟨h1, h2⟩ := h; subst h1; subst h2
      rw [if_pos ⟨rfl, rfl⟩, if_pos ⟨rfl, rfl⟩]
    · rw [if_neg h, if_neg fun h' => h (cell_inj h'.1)]
  rw [Finset.sum_congr rfl fun d _ => hterm d]
  rcases k with u | ⟨t', j'⟩
  · exact Finset.sum_eq_zero fun d _ => Finset.sum_eq_zero fun j _ => if_neg fun h => by cases h.2
  · show _ = if t' = t then N else 0
    by_cases ht : t' = t
    · subst ht
      rw [if_pos rfl, Finset.sum_eq_single (e.symm c), Finset.sum_eq_single j', if_pos ⟨(e.apply_symm_apply c).symm, rfl⟩]
      · intro j _ hj; exact if_neg fun h => hj (by have := h.2; cases this; rfl)
      · intro h; exact absurd (Finset.mem_univ _) h
      · intro d _ hd
        exact Finset.sum_eq_zero fun j _ => if_neg fun h => hd (by rw [h.1, Equiv.symm_apply_apply])
      · intro h; exact absurd (Finset.mem_univ _) h
    · rw [if_neg ht]
      exact Finset.sum_eq_zero fun d _ => Finset.sum_eq_zero fun j _ => if_neg fun h => ht (by have := h.2; cases this; rfl)

/-- What all devices owe a cell in barrier units, device `d` to `e d`: one on each barrier cell. -/
theorem owed_bar (e : Dev nD ≃ Dev nD) (c : Dev nD) (k : CI) :
    ∑ d : Dev nD, (tallyAt (barC (e d)) () 1 : CellTallies nD τ sig Unit) (cell c k) () = match k with | .inl _ => 1 | .inr _ => 0 := by
  have hterm : ∀ d : Dev nD, (tallyAt (barC (e d)) () 1 : CellTallies nD τ sig Unit) (cell c k) () = if c = e d ∧ k = .inl () then 1 else 0 := by
    intro d
    rw [tallyAt_apply]
    by_cases h : c = e d ∧ k = .inl ()
    · obtain ⟨h1, h2⟩ := h; subst h1; subst h2
      rw [if_pos ⟨rfl, rfl⟩, if_pos ⟨rfl, rfl⟩]
    · rw [if_neg h, if_neg fun h' => h (cell_inj h'.1)]
  rw [Finset.sum_congr rfl fun d _ => hterm d]
  rcases k with u | kj
  · show _ = 1
    rw [Finset.sum_eq_single (e.symm c), if_pos ⟨(e.apply_symm_apply c).symm, rfl⟩]
    · intro d _ hd
      exact if_neg fun h => hd (by rw [h.1, Equiv.symm_apply_apply])
    · intro h; exact absurd (Finset.mem_univ _) h
  · exact Finset.sum_eq_zero fun d _ => if_neg fun h => by cases h.2

/-- What all devices owe a cell at launch: two units on a barrier cell, a chunk's credit on a landing cell. -/
def owedAt (k : CI) : ℕ := match k with
  | .inl _ => 2
  | .inr (t, _) => if t = 1 ∨ t = 3 then N else 0

theorem owed_all (c : Dev nD) (k : CI) : ∑ d : Dev nD, O₀ σ d (cell c k) () = owedAt k := by
  have h : ∀ d : Dev nD, O₀ σ d (cell c k) ()
      = (tail (fun j => tallyAt (cell (eqvD σ d) (.inr (1, j))) () N) 0) (cell c k) ()
        + (tail (fun j => tallyAt (cell (eqvX d) (.inr (3, j))) () N) 0) (cell c k) ()
        + (tallyAt (barC (eqvX d)) () 1 : CellTallies nD τ sig Unit) (cell c k) ()
        + (tallyAt (barC (eqvY d)) () 1 : CellTallies nD τ sig Unit) (cell c k) () := fun d => rfl
  rw [Finset.sum_congr rfl fun d _ => h d, Finset.sum_add_distrib, Finset.sum_add_distrib, Finset.sum_add_distrib,
    owed_tail, owed_tail, owed_bar, owed_bar]
  rcases k with u | ⟨t, j⟩
  · rfl
  · show (if t = 1 then N else 0) + (if t = 3 then N else 0) + 0 + 0 = if t = 1 ∨ t = 3 then N else 0
    fin_cases t <;> simp

theorem launch_credit (c : Dev nD) (k : CI) :
    tallyOn (cell c k) (launchCredit (Pipeline.owing (O₀ σ)) 0 (cell c k)) = (tallyAt (cell c k) () (owedAt k) : CellTallies nD τ sig Unit) := by
  unfold tallyAt; refine congrArg _ (Finsupp.ext fun u => ?_); cases u
  rw [Pipeline.launchCredit_owing, Finsupp.single_eq_same, owed_all]

theorem creds (c : Dev nD) : (Pipeline.launchCred (O₀ σ) c : sProp 𝕄) ⊢ credits c := by
  have hsub : (Pipeline.launchCred (O₀ σ) c : sProp 𝕄) ⊢ bigSep Finset.univ fun k : CI => cred (tallyAt (cell c k) () (owedAt k)) := by
    unfold Pipeline.launchCred
    have e : bigSep (Finset.univ.map ⟨csem, csem_injective⟩) (fun sm : SemLoc sig => (cred (tallyOn ((c : Thread nD τ), sm)
          (launchCredit (Pipeline.owing (O₀ σ)) 0 ((c : Thread nD τ), sm))) : sProp 𝕄))
        = bigSep Finset.univ fun k : CI => cred (tallyAt (cell c k) () (owedAt k)) := by
      rw [bigSep_map]
      exact bigSep_congr fun k _ => congrArg cred (launch_credit σ c k)
    rw [← e]
    exact BI.bigSep_subset (Finset.subset_univ _)
  refine hsub.trans ?_
  rw [bigSep_CI]; unfold credits
  iintro ⟨H0, -, H1, -, H3⟩
  isplitl [H0]; · iexact H0
  isplitl [H1]; · iexact H1
  iexact H3

/-! ## The theorem's side conditions -/

/-- What a device's invariant is made from besides the scratch buffers. -/
def start (c : Dev nD) : sProp 𝕄 :=
  iprop(∃ K, records σ m K ∗ levAts L lv ∗ localSems c ∗ inputs m c ∗ outAny c ∗ payToks σ c ∗ posns c 0 ∗ credits c)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ |={Set.univ}=> iprop(start σ m c ∗ emp) := by
  rw [Pipeline.unscopedRestP_none, unscopedRest0_eq]
  unfold G' start
  iintro ⟨⟨Hx, Hpi, Ho⟩, Hlev, Hcr, -, ⟨%K, HR, Hl, Ht, Hp⟩⟩
  ihave Hc := (creds (F := F) σ c) $$ Hcr
  ihave Ho' := (out_split (F := F) c _) $$ Ho
  imodintro
  isplitl
  · iexists K
    isplitl [HR]; · iexact HR
    isplitl [Hlev]; · iexact Hlev
    isplitl [Hl]; · iexact Hl
    isplitl [Hx Hpi]
    · unfold inputs
      isplitl [Hx]; · iexact Hx
      iexact Hpi
    isplitl [Ho']; · iexact Ho'
    isplitl [Ht]; · iexact Ht
    isplitl [Hp]; · iexact Hp
    iexact Hc
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = Φ₀ σ m c from rfl]
  unfold Φ₀ start
  iintro ⟨⟨%K, HR, Hlev, Hl, Hi, Ho, Ht, Hp, Hc⟩, -, Hs⟩
  ihave Hs' := (scratch_split (F := F) c) $$ Hs
  iexists K
  isplitl [HR]; · iexact HR
  isplitl [Hlev]; · iexact Hlev
  isplitl [Hl]; · iexact Hl
  isplitl [Hs']; · iexact Hs'
  isplitl [Hi]; · iexact Hi
  isplitl [Ho]; · iexact Ho
  isplitl [Ht]; · iexact Ht
  isplitl [Hp]; · iexact Hp
  iexact Hc

/-- What is read at the end: the barrier's counter, the arguments, the result. -/
def ended (c : Dev nD) : sProp 𝕄 :=
  iprop(unscopedSems0 c ∗ inputs m c ∗ ((c : Thread nD τ).loc main_v1 ↦{fullShare} (outVal σ m c : Buf (Elt F) ((c : Thread nD τ).loc main_v1))))

theorem phi1_exit (c : Dev nD) :
    (dats σ m 0 c).Φ (Fin.last cfg0.N) ⊢ iprop(ended σ m c ∗ Pipeline.ownSems0 osem c ∗ Pipeline.scopedRest cfg0.spec c) := by
  rw [show (dats σ m 0 c).Φ (Fin.last cfg0.N) = Φ₁ σ m c from rfl]
  unfold Φ₁ ended
  iintro ⟨Hl, Hx, Hs, Hi, Ho⟩
  ihave Hsem := (sems0_join (F := F) c) $$ [Hl Hx]
  · isplitl [Hl] <;> iassumption
  icases Hsem with ⟨Hus, Hos⟩
  ihave Hs' := (scratch_join (F := F) c) $$ Hs
  ihave Ho' := (out_join (F := F) σ m c) $$ Ho
  isplitl [Hus Hi Ho']
  · isplitl [Hus]; · iexact Hus
    isplitl [Hi]; · iexact Hi
    iexact Ho'
  isplitl [Hos]; · iexact Hos
  iexact Hs'

theorem waits (c : Dev nD) : (levAts L lv : sProp 𝕄) ⊢ Pipeline.cellsWaits cfgs (dats σ m) () 0 c :=
  Pipeline.cellsWaits_intro cfgs (dats σ m) () 0 c fun w s t => w.elim0

/-! ## The run -/

/-- What a final memory holds of device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outVal σ m c

theorem ended_read (c : Dev nD) (s' : Phys nD τ sig (Elt F)) : iprop(ended σ m c ∗ emp ∗ SI s') ⊢ |={Set.univ}=> iprop(⌜QY σ m c s'.mem⌝ ∗ SI s') := by
  unfold ended inputs
  iintro ⟨⟨Hu, ⟨Hx, Hpi⟩, Ho⟩, -, HSI⟩
  icombine HSI Hx gives %hx
  icombine HSI Hpi gives %hp
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hx i (Finset.mem_univ i), funext fun i => hp i (Finset.mem_univ i), funext fun i => ho i (Finset.mem_univ i)⟩
  · iexact HSI

set_option maxRecDepth 8000 in
include hpi in
/-- From any memory with zero counters whose copies of the permutation name `dst σ` as the device to exchange halves with, for any
    float values: every weakly fair execution of the four devices terminates, every counter ends at zero, the arguments are
    unchanged, and each device's result is `outVal`. -/
theorem run_main (ρ : Dev nD → PrngReg) :
    θ_run defs (onTc (τ := τ) (main (F := F))) ⟨m, fun _ => 0, ρ⟩ (fun r => r.2.sem = (fun _ => 0) ∧ ∀ c, QY σ m c r.2) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := body_obligation σ m hpi) (hne := fun w => w.elim0) (harr := arr_whole0) (hstage := stage_whole0) (hshare := fun _ w => w.elim0)
    (hdistinct := winFacts0.arr_inj)
    (O₀ := O₀ σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      ihave HX := (own_cells (F := F) _) $$ HX
      imod (fund_cells σ m) $$ HX with HG
      imodintro
      isplitl [HP] <;> iassumption)
    (hglob := glob σ m)
    (hA := fun _ w => w.elim0) (hpf := fun _ k => k.elim0)
    (X := start σ m) (Y := ended σ m) (Z := fun _ => iprop(emp))
    (hX := start_intro σ m ρ) (hin := phi0_intro σ m) (hout := phi1_exit σ m)
    (QY := QY σ m)
    (hY := ended_read σ m)
    (hQ := fun _ h hs => ⟨sem_eq_zero hs fun c => (h c).2.2.1, fun c => (h c).2.2⟩)

end Cert.SwapProof

end
-- ==== Proof.Value.lean ====
/-
# `Value`: the reference's result, index by index, and the kernel's

For either permutation of the two blocks, the sort the reference makes of the permutation is the permutation itself, so entry
`(b, r, k)` of its result is the narrowed entry `(col b, r, k)` of its argument. A device's block of it is what `outVal`
says the device's result holds. The preconditions, read at the entry a device loads, name the destination of `Proto`.
-/
module

public import proofs.«01_k».proof.Proof.Launch
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_swapped_Kernel
public import proofs.«01_k».proof.Proof.Gen.Pre_in_place_Kernel
public import Idealize.ShloMosaic.Lib.WordCmp
public import Idealize.ShloMosaic.Lib.Layout

@[expose] public section

noncomputable section

namespace Cert.SwapProof

open Cert.KernelIdeal Cert.KernelIdeal.Gen

open Idealize.ShloMosaic
open Idealize.ShloMosaic.TcCoe
open Idealize.SL.Sem

variable {F : FTy → Type} [FloatOps F]

/-! ## The permutation -/

/-- The block that block `b` of the result comes from (and goes to: both permutations are their own inverse). -/
def col (σ : Bool) (b : ℕ) : ℕ := if σ then 1 - b else b

theorem col_lt (σ : Bool) {b : ℕ} (h : b < 2) : col σ b < 2 := by unfold col; split <;> omega

/-- The permutation as an array of words. -/
def perm (σ : Bool) : S2.Idx → BitVec 32 := fun j => BitVec.ofNat 32 (col σ (j 0).val)

theorem dst_col (σ : Bool) (c : Dev nD) : (dst σ c).val % 2 = col σ (c.val % 2) := by
  revert c; cases σ <;> decide

/-- The array of the permutation names the destination of each device. -/
theorem permWord_of (σ : Bool) (m : (ℓ : Loc nD τ sig) → Buf (Elt F) ℓ)
    (h : ∀ c : Dev nD, (m ((c : Thread nD τ).loc main_arg1) : S2.Idx → BitVec 32) = perm σ) (c : Dev nD) :
    permWord m c = BitVec.ofNat 32 ((dst σ c).val % 2) := by
  unfold permWord
  rw [h c, dst_col]
  rfl

/-- A comparison for equality that answers one is an equality. -/
theorem eq_of_cmpi_one {a b : BitVec 32} (h : IntOp.cmpi .eq a b = 1#1) : a = b := by
  rw [WordCmp.cmpi_eq_eq] at h
  by_contra hne
  rw [decide_eq_false hne] at h
  exact absurd h (by decide)

/-- The first precondition: the permutation swaps the two blocks. -/
theorem perm_of_swapped [Cert.Pre_swapped_Kernel.Facts] (x : FVec F S1x1024x1024 .f32) (p : S2.Idx → BitVec 32)
    (h : Cert.Pre_swapped_Kernel.fn x p = fun _ => 1#1) : p = perm true := by
  funext j
  have h2 : p j = 1#32 - BitVec.ofNat 32 (j 0).val := eq_of_cmpi_one (congrFun h j)
  rw [h2]
  have hj : (j 0).val < 2 := (j 0).isLt
  unfold perm col
  generalize (j 0).val = k at hj
  rcases (by omega : k = 0 ∨ k = 1) with rfl | rfl <;> rfl

/-- The second precondition: it leaves each in its place. -/
theorem perm_of_in_place [Cert.Pre_in_place_Kernel.Facts] (x : FVec F S1x1024x1024 .f32) (p : S2.Idx → BitVec 32)
    (h : Cert.Pre_in_place_Kernel.fn x p = fun _ => 1#1) : p = perm false :=
  funext fun j => eq_of_cmpi_one (congrFun h j)

/-! ## The reference's result -/

section Reference

open Cert.ReferenceIdeal (S2x1024x1024 S2x1)

/-- The positions the reference sorts the permutation into; -/
abbrev order (p : S2.Idx → BitVec 32) : IVec Cert.ReferenceIdeal.S2 32 :=
  (Host.sort2 Cert.ReferenceIdeal.S2 0 Cert.ReferenceIdeal.comparator_i32_i32_d0 p (iotaInDim Cert.ReferenceIdeal.S2 32 0)).2

/-- the row numbers it reads by: those, a negative one counted from the end; -/
abbrev rows (p : S2.Idx → BitVec 32) : IVec Cert.ReferenceIdeal.S2 32 :=
  select (cmpi .slt (order p) (broadcastInDim Cert.ReferenceIdeal.S2 ![] Cert.ReferenceIdeal.Facts₀.bcast_S_S2 (constantI Cert.ReferenceIdeal.S_ 32 0#32)))
    (addi (order p) (broadcastInDim Cert.ReferenceIdeal.S2 ![] Cert.ReferenceIdeal.Facts₀.bcast_S_S2 (constantI Cert.ReferenceIdeal.S_ 32 2#32))) (order p)

/-- and its result from its two arguments. -/
def refOut (x : FVec F S2x1024x1024 .f32) (p : S2.Idx → BitVec 32) : FVec F S2x1024x1024 .bf16 :=
  truncf .bf16 (Host.gather Cert.ReferenceIdeal.gather_S2x1024x1024_S2x1_S2x1024x1024_12_0_n_n_0_1_110241024 x
    (broadcastInDim S2x1 ![0] Cert.ReferenceIdeal.Facts₀.bcast_S2_S2x1_0 (rows p))) Cert.ReferenceIdeal.Facts₀.bitsLt_bf16_f32

/-- The permutation sorted is the permutation. -/
theorem rows_perm (σ : Bool) : rows (perm σ) = perm σ := by
  cases σ <;> decide

/-- Entry `i` of the reference's result: the entry of its argument at block `col (i 0)`, the same place in the block, narrowed. -/
theorem refOut_apply (σ : Bool) (x : FVec F S2x1024x1024 .f32) (i y : S2x1024x1024.Idx)
    (h0 : (y 0).val = col σ (i 0).val) (h1 : (y 1).val = (i 1).val) (h2 : (y 2).val = (i 2).val) :
    refOut x (perm σ) i = FloatOps.truncf .bf16 bitsLt_bf16_f32 (x y) := by
  unfold refOut
  rw [rows_perm]
  show FloatOps.truncf .bf16 bitsLt_bf16_f32 (x _) = _
  refine congrArg (fun z => FloatOps.truncf .bf16 bitsLt_bf16_f32 (x z)) (funext fun a => Fin.ext ?_)
  match a with
  | ⟨0, _⟩ =>
    refine Eq.trans ?_ h0.symm
    have hi : (i 0).val < 2 := (i 0).isLt
    show min (BitVec.ofNat 32 (col σ (i 0).val)).toInt.toNat (2 - 1) + 0 + 0 = col σ (i 0).val
    generalize (i 0).val = k at hi
    revert hi; revert k
    cases σ <;> intro k hi <;> rcases (by omega : k = 0 ∨ k = 1) with rfl | rfl <;> rfl
  | ⟨1, _⟩ =>
    refine Eq.trans ?_ h1.symm
    show 0 + 0 + (i 1).val = (i 1).val
    omega
  | ⟨2, _⟩ =>
    refine Eq.trans ?_ h2.symm
    show 0 + 0 + (i 2).val = (i 2).val
    omega

/-! ## The kernel's result is its block of it -/

/-- Where a device's result comes from is, in either half, the column of the permutation. -/
theorem srcOf_col (σ : Bool) (c : Dev nD) (r : ℕ) : (srcOf σ c r).val % 2 = col σ (c.val % 2) := by
  unfold srcOf
  split
  · exact dst_col σ c
  · rw [dst_col]
    have h : ∀ d : Dev nD, (sx d).val % 2 = d.val % 2 := by decide
    rw [h]

/-- The device's block along the first axis is its column: the mesh's second coordinate. -/
theorem block_val (c : Dev nD) :
    ((Layout.meshBlock (r := 3) [2, 2] ![[1], [], []] c) (0 : Fin 3)).val = c.val % 2 := by
  revert c; decide

/-- The narrowed values the kernel leaves on a device are the device's block of the reference's result. -/
theorem outVal_eq (σ : Bool) (m : (ℓ : Loc nD τ sig) → Buf (Elt F) ℓ) (x : FVec F S2x1024x1024 .f32)
    (hx : ∀ c : Dev nD, (m ((c : Thread nD τ).loc main_arg0) : S1x1024x1024.Idx → Elt F .f32)
      = Layout.blockN ⟨3, ![1, 1024, 1024]⟩ ⟨3, ![2, 1024, 1024]⟩ (Layout.meshBlock [2, 2] ![[1], [], []] c) x) (c : Dev nD) :
    outVal σ m c = Layout.blockN ⟨3, ![1, 1024, 1024]⟩ ⟨3, ![2, 1024, 1024]⟩ (Layout.meshBlock [2, 2] ![[1], [], []] c) (refOut x (perm σ)) := by
  funext i
  rw [Layout.blockN_apply]
  unfold outVal
  rw [hx, Layout.blockN_apply]
  have hi : (i 0).val = 0 := Nat.lt_one_iff.mp (i 0).isLt
  refine (refOut_apply σ x _ _ ?_ ?_ ?_).symm
  · show ((Layout.meshBlock (r := 3) [2, 2] ![[1], [], []] (srcOf σ c (i 1).val)) (0 : Fin 3)).val * 1 + (i 0).val
      = col σ (((Layout.meshBlock (r := 3) [2, 2] ![[1], [], []] c) (0 : Fin 3)).val * 1 + (i 0).val)
    rw [block_val, block_val, hi, Nat.mul_one, Nat.mul_one, Nat.add_zero, Nat.add_zero, srcOf_col]
  · show 0 * 1024 + (i 1).val = 0 * 1024 + (i 1).val
    rfl
  · show 0 * 1024 + (i 2).val = 0 * 1024 + (i 2).val
    rfl

end Reference

/-! ## The two runs, for either permutation -/

/-- The kernel, from a memory whose every device holds the permutation: the arguments unchanged and every counter at zero. -/
theorem kernel_quiet (σ : Bool) (m : (ℓ : Loc nD τ sig) → Buf (Elt F) ℓ) (ρ : Dev nD → PrngReg)
    (hp : ∀ c : Dev nD, (m ((c : Thread nD τ).loc main_arg1) : S2.Idx → BitVec 32) = perm σ) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨(h.2 c).2.1, (h.2 c).2.2.1⟩, h.1⟩) (run_main σ m (permWord_of σ m hp) ρ)

/-- The kernel, from a memory whose devices hold the blocks of `x` and the permutation: each ends with its block of the
    reference's result from `x`, the arguments unchanged. -/
theorem kernel_value (σ : Bool) (m : (ℓ : Loc nD τ sig) → Buf (Elt F) ℓ) (ρ : Dev nD → PrngReg)
    (hp : ∀ c : Dev nD, (m ((c : Thread nD τ).loc main_arg1) : S2.Idx → BitVec 32) = perm σ)
    (x : FVec F Cert.ReferenceIdeal.S2x1024x1024 .f32)
    (hx : ∀ c : Dev nD, (m ((c : Thread nD τ).loc main_arg0) : S1x1024x1024.Idx → Elt F .f32)
      = Layout.blockN ⟨3, ![1, 1024, 1024]⟩ ⟨3, ![2, 1024, 1024]⟩ (Layout.meshBlock [2, 2] ![[1], [], []] c) x) :
    θ_run (defs (F := F)) (onTc (τ := τ) (main (F := F))) ⟨m, fun _ => 0, ρ⟩ (fun r => ∀ c : Dev nD,
      r.2.mem ((c : Thread nD τ).loc main_v1)
        = Layout.blockN ⟨3, ![1, 1024, 1024]⟩ ⟨3, ![2, 1024, 1024]⟩ (Layout.meshBlock [2, 2] ![[1], [], []] c) (refOut x (perm σ))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨((h.2 c).2.2.2).trans (outVal_eq σ m x hx c), (h.2 c).2.1, (h.2 c).2.2.1⟩)
    (run_main σ m (permWord_of σ m hp) ρ)

end Cert.SwapProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_swapped_Kernel
public import proofs.«01_k».proof.Proof.Gen.Pre_in_place_Kernel
public import proofs.«01_k».proof.Proof.Gen.Pre_swapped_Reference
public import proofs.«01_k».proof.Proof.Gen.Pre_in_place_Reference
public import proofs.«01_k».proof.Proof.Value
public import Idealize.ShloMosaic.Adequacy
public import Idealize.ShloMosaic.Init

@[expose] public section

noncomputable section

namespace Cert.Proof

open Idealize.ShloMosaic Idealize.SL.Sem Cert.SwapProof

/-- The kernel ends quiet where the blocks are swapped, -/
theorem quiet_swapped : Cert.quiescent_Kernel := fun m g h => kernel_quiet (F := Bits) true m g fun c => perm_of_swapped _ _ (h c)
/-- where they stay, -/
theorem quiet_in_place : Cert.quiescent_Kernel_pre_in_place_Kernel :=
  fun m g h => kernel_quiet (F := Bits) false m g fun c => perm_of_in_place _ _ (h c)
/-- and over the extended reals where they are swapped -/
theorem quiet_swapped_ideal : Cert.quiescent_KernelIdeal :=
  fun m g h => kernel_quiet (F := Ideal) true m g fun c => perm_of_swapped _ _ (h c)
/-- and where they stay. -/
theorem quiet_in_place_ideal : Cert.quiescent_KernelIdeal_pre_in_place_Kernel :=
  fun m g h => kernel_quiet (F := Ideal) false m g fun c => perm_of_in_place _ _ (h c)

/-- The reference has no counter, so it ends quiet from any memory; -/
theorem quiet_reference : Cert.quiescent_Reference := fun m g _ =>
  (θ_run Cert.Reference.defs _ _).mono (fun r h => ⟨fun c => (h c).2, sem_eq_zero_of_no_sems rfl r.2⟩) (Cert.Reference.Value.run (F := Bits) m g)
/-- and over the extended reals. -/
theorem quiet_reference_ideal : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Every claim, for both permutations. -/
theorem claim : Cert.Claim :=
  ⟨Cert.Kernel.Gen.facts, Cert.KernelIdeal.Gen.facts, Cert.Reference.Gen.facts, Cert.ReferenceIdeal.Gen.facts,
    Cert.Pre_swapped_Kernel.Gen.facts, Cert.Pre_in_place_Kernel.Gen.facts, Cert.Pre_swapped_Reference.Gen.facts,
    Cert.Pre_in_place_Reference.Gen.facts,
    quiet_swapped, quiet_in_place, quiet_swapped_ideal, quiet_in_place_ideal,
    quiet_reference, fun m g _ => quiet_reference m g trivial, fun m g _ => quiet_reference m g trivial,
    quiet_reference_ideal, fun m g _ => quiet_reference_ideal m g trivial, fun m g _ => quiet_reference_ideal m g trivial,
    trivial,
    fun m g m' g' h hm => ⟨_, kernel_value (F := Ideal) true m g (fun c => perm_of_swapped _ _ (h c)) _ (fun c => (hm c).1),
      (θ_run Cert.ReferenceIdeal.defs _ _).mono (fun r k => ⟨(k 0).1.trans (congrArg (refOut _) ((hm 0).2.symm.trans (perm_of_swapped _ _ (h 0)))), (k 0).2⟩)
        (Cert.ReferenceIdeal.Value.run (F := Ideal) m' g')⟩,
    fun m g m' g' h hm => ⟨_, kernel_value (F := Ideal) false m g (fun c => perm_of_in_place _ _ (h c)) _ (fun c => (hm c).1),
      (θ_run Cert.ReferenceIdeal.defs _ _).mono (fun r k => ⟨(k 0).1.trans (congrArg (refOut _) ((hm 0).2.symm.trans (perm_of_in_place _ _ (h 0)))), (k 0).2⟩)
        (Cert.ReferenceIdeal.Value.run (F := Ideal) m' g')⟩,
    fun m g m' g' h hm => ⟨_, kernel_value (F := Bits) true m g (fun c => perm_of_swapped _ _ (h c)) _ (fun c => (hm c).1),
      (θ_run Cert.Reference.defs _ _).mono (fun r k => ⟨(k 0).1.trans (congrArg (refOut _) ((hm 0).2.symm.trans (perm_of_swapped _ _ (h 0)))), (k 0).2⟩)
        (Cert.Reference.Value.run (F := Bits) m' g')⟩,
    fun m g m' g' h hm => ⟨_, kernel_value (F := Bits) false m g (fun c => perm_of_in_place _ _ (h c)) _ (fun c => (hm c).1),
      (θ_run Cert.Reference.defs _ _).mono (fun r k => ⟨(k 0).1.trans (congrArg (refOut _) ((hm 0).2.symm.trans (perm_of_in_place _ _ (h 0)))), (k 0).2⟩)
        (Cert.Reference.Value.run (F := Bits) m' g')⟩⟩

end Cert.Proof

end
